-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x32768 : Shape := ⟨2, ![64, 32768]⟩
abbrev S32x1x64 : Shape := ⟨3, ![32, 1, 64]⟩
abbrev S32 : Shape := ⟨1, ![32]⟩
abbrev S32x32x3 : Shape := ⟨3, ![32, 32, 3]⟩
abbrev S1024x4096 : Shape := ⟨2, ![1024, 4096]⟩
abbrev S2048x1x4 : Shape := ⟨3, ![2048, 1, 4]⟩
abbrev S2048 : Shape := ⟨1, ![2048]⟩
abbrev S2048x96 : Shape := ⟨2, ![2048, 96]⟩
abbrev S64x2048 : Shape := ⟨2, ![64, 2048]⟩
abbrev S2048x16 : Shape := ⟨2, ![2048, 16]⟩
abbrev S2048x1024 : Shape := ⟨2, ![2048, 1024]⟩
abbrev S1024 : Shape := ⟨1, ![1024]⟩
abbrev S1024x128 : Shape := ⟨2, ![1024, 128]⟩
abbrev S128 : Shape := ⟨1, ![128]⟩
abbrev S32x64 : Shape := ⟨2, ![32, 64]⟩
abbrev S64x32 : Shape := ⟨2, ![64, 32]⟩
abbrev S1x32 : Shape := ⟨2, ![1, 32]⟩
abbrev S32x32x1 : Shape := ⟨3, ![32, 32, 1]⟩
abbrev S32x32 : Shape := ⟨2, ![32, 32]⟩
abbrev S32x1 : Shape := ⟨2, ![32, 1]⟩
abbrev S2048x4 : Shape := ⟨2, ![2048, 4]⟩
abbrev S4x2048 : Shape := ⟨2, ![4, 2048]⟩
abbrev S1x2048 : Shape := ⟨2, ![1, 2048]⟩
abbrev S2048x64 : Shape := ⟨2, ![2048, 64]⟩
abbrev S16x2048 : Shape := ⟨2, ![16, 2048]⟩
abbrev S1x1024 : Shape := ⟨2, ![1, 1024]⟩
abbrev S1x128 : Shape := ⟨2, ![1, 128]⟩
abbrev S64x128 : Shape := ⟨2, ![64, 128]⟩
abbrev S8x32768 : Shape := ⟨2, ![8, 32768]⟩
abbrev S8x128 : Shape := ⟨2, ![8, 128]⟩
abbrev S32x8x2048 : Shape := ⟨3, ![32, 8, 2048]⟩
abbrev S32x8x16 : Shape := ⟨3, ![32, 8, 16]⟩
abbrev S1x16x2048 : Shape := ⟨3, ![1, 16, 2048]⟩
abbrev S1x1x2048 : Shape := ⟨3, ![1, 1, 2048]⟩
abbrev S8x24 : Shape := ⟨2, ![8, 24]⟩
abbrev S8x56 : Shape := ⟨2, ![8, 56]⟩
abbrev S8x32848 : Shape := ⟨2, ![8, 32848]⟩
abbrev S8x32832 : Shape := ⟨2, ![8, 32832]⟩
abbrev S8x1026x32 : Shape := ⟨3, ![8, 1026, 32]⟩
abbrev S8x1024x32 : Shape := ⟨3, ![8, 1024, 32]⟩
abbrev S8192x32 : Shape := ⟨2, ![8192, 32]⟩
abbrev S32x8192 : Shape := ⟨2, ![32, 8192]⟩
abbrev S32x8x1024 : Shape := ⟨3, ![32, 8, 1024]⟩
abbrev S256x1024 : Shape := ⟨2, ![256, 1024]⟩
abbrev S256x4096 : Shape := ⟨2, ![256, 4096]⟩
abbrev S256x2048 : Shape := ⟨2, ![256, 2048]⟩
abbrev S1x8x2048 : Shape := ⟨3, ![1, 8, 2048]⟩
abbrev S31x8x2048 : Shape := ⟨3, ![31, 8, 2048]⟩
abbrev S30x8x2048 : Shape := ⟨3, ![30, 8, 2048]⟩
abbrev S29x8x2048 : Shape := ⟨3, ![29, 8, 2048]⟩
abbrev S256x64 : Shape := ⟨2, ![256, 64]⟩
abbrev S256x16 : Shape := ⟨2, ![256, 16]⟩
abbrev S8x16x2048 : Shape := ⟨3, ![8, 16, 2048]⟩
abbrev S8x1x2048 : Shape := ⟨3, ![8, 1, 2048]⟩
abbrev S1x8x16 : Shape := ⟨3, ![1, 8, 16]⟩
abbrev S8x16x1 : Shape := ⟨3, ![8, 16, 1]⟩
abbrev S8x2048 : Shape := ⟨2, ![8, 2048]⟩
abbrev S32x8x1 : Shape := ⟨3, ![32, 8, 1]⟩
abbrev S32x8x1023 : Shape := ⟨3, ![32, 8, 1023]⟩
abbrev S1x8x1024 : Shape := ⟨3, ![1, 8, 1024]⟩
abbrev S8x1024 : Shape := ⟨2, ![8, 1024]⟩
abbrev S32x8 : Shape := ⟨2, ![32, 8]⟩
abbrev S1x1x1024 : Shape := ⟨3, ![1, 1, 1024]⟩

abbrev nBuf : Space → Nat
  | .hbm => 43
  | .vmem => 30
  | .smem => 0
  | _ => 0

abbrev bufTy : (tb : Table) → Fin (tcTables nBuf tb) → BufTy
  | .hbm, ⟨0, _⟩ => ⟨S64x32768, .f32⟩
  | .hbm, ⟨1, _⟩ => ⟨S32x1x64, .f32⟩
  | .hbm, ⟨2, _⟩ => ⟨S32, .f32⟩
  | .hbm, ⟨3, _⟩ => ⟨S32x32x3, .f32⟩
  | .hbm, ⟨4, _⟩ => ⟨S32, .f32⟩
  | .hbm, ⟨5, _⟩ => ⟨S1024x4096, .f32⟩
  | .hbm, ⟨6, _⟩ => ⟨S2048x1x4, .f32⟩
  | .hbm, ⟨7, _⟩ => ⟨S2048, .f32⟩
  | .hbm, ⟨8, _⟩ => ⟨S2048x96, .f32⟩
  | .hbm, ⟨9, _⟩ => ⟨S64x2048, .f32⟩
  | .hbm, ⟨10, _⟩ => ⟨S2048, .f32⟩
  | .hbm, ⟨11, _⟩ => ⟨S2048x16, .f32⟩
  | .hbm, ⟨12, _⟩ => ⟨S2048, .f32⟩
  | .hbm, ⟨13, _⟩ => ⟨S2048x1024, .f32⟩
  | .hbm, ⟨14, _⟩ => ⟨S1024, .f32⟩
  | .hbm, ⟨15, _⟩ => ⟨S1024, .f32⟩
  | .hbm, ⟨16, _⟩ => ⟨S1024x128, .f32⟩
  | .hbm, ⟨17, _⟩ => ⟨S128, .f32⟩
  | .hbm, ⟨18, _⟩ => ⟨S32x64, .f32⟩
  | .hbm, ⟨19, _⟩ => ⟨S64x32, .f32⟩
  | .hbm, ⟨20, _⟩ => ⟨S1x32, .f32⟩
  | .hbm, ⟨21, _⟩ => ⟨S32x32x1, .f32⟩
  | .hbm, ⟨22, _⟩ => ⟨S32x32, .f32⟩
  | .hbm, ⟨23, _⟩ => ⟨S32x32x1, .f32⟩
  | .hbm, ⟨24, _⟩ => ⟨S32x32, .f32⟩
  | .hbm, ⟨25, _⟩ => ⟨S32x32x1, .f32⟩
  | .hbm, ⟨26, _⟩ => ⟨S32x32, .f32⟩
  | .hbm, ⟨27, _⟩ => ⟨S32x1, .f32⟩
  | .hbm, ⟨28, _⟩ => ⟨S1024x4096, .bf16⟩
  | .hbm, ⟨29, _⟩ => ⟨S2048x4, .f32⟩
  | .hbm, ⟨30, _⟩ => ⟨S4x2048, .f32⟩
  | .hbm, ⟨31, _⟩ => ⟨S1x2048, .f32⟩
  | .hbm, ⟨32, _⟩ => ⟨S2048x64, .f32⟩
  | .hbm, ⟨33, _⟩ => ⟨S2048x16, .f32⟩
  | .hbm, ⟨34, _⟩ => ⟨S2048x16, .f32⟩
  | .hbm, ⟨35, _⟩ => ⟨S1x2048, .f32⟩
  | .hbm, ⟨36, _⟩ => ⟨S16x2048, .f32⟩
  | .hbm, ⟨37, _⟩ => ⟨S1x2048, .f32⟩
  | .hbm, ⟨38, _⟩ => ⟨S2048x1024, .bf16⟩
  | .hbm, ⟨39, _⟩ => ⟨S1x1024, .f32⟩
  | .hbm, ⟨40, _⟩ => ⟨S1x1024, .f32⟩
  | .hbm, ⟨41, _⟩ => ⟨S1x128, .f32⟩
  | .hbm, ⟨42, _⟩ => ⟨S64x128, .f32⟩
  | .local _ .vmem, ⟨0, _⟩ => ⟨S8x32768, .f32⟩
  | .local _ .vmem, ⟨1, _⟩ => ⟨S8x32768, .f32⟩
  | .local _ .vmem, ⟨2, _⟩ => ⟨S64x32, .f32⟩
  | .local _ .vmem, ⟨3, _⟩ => ⟨S1x32, .f32⟩
  | .local _ .vmem, ⟨4, _⟩ => ⟨S32x32, .f32⟩
  | .local _ .vmem, ⟨5, _⟩ => ⟨S32x32, .f32⟩
  | .local _ .vmem, ⟨6, _⟩ => ⟨S32x32, .f32⟩
  | .local _ .vmem, ⟨7, _⟩ => ⟨S32x1, .f32⟩
  | .local _ .vmem, ⟨8, _⟩ => ⟨S1024x4096, .bf16⟩
  | .local _ .vmem, ⟨9, _⟩ => ⟨S4x2048, .f32⟩
  | .local _ .vmem, ⟨10, _⟩ => ⟨S1x2048, .f32⟩
  | .local _ .vmem, ⟨11, _⟩ => ⟨S2048x64, .f32⟩
  | .local _ .vmem, ⟨12, _⟩ => ⟨S2048x16, .f32⟩
  | .local _ .vmem, ⟨13, _⟩ => ⟨S2048x16, .f32⟩
  | .local _ .vmem, ⟨14, _⟩ => ⟨S64x2048, .f32⟩
  | .local _ .vmem, ⟨15, _⟩ => ⟨S1x2048, .f32⟩
  | .local _ .vmem, ⟨16, _⟩ => ⟨S16x2048, .f32⟩
  | .local _ .vmem, ⟨17, _⟩ => ⟨S1x2048, .f32⟩
  | .local _ .vmem, ⟨18, _⟩ => ⟨S2048x1024, .bf16⟩
  | .local _ .vmem, ⟨19, _⟩ => ⟨S1x1024, .f32⟩
  | .local _ .vmem, ⟨20, _⟩ => ⟨S1x1024, .f32⟩
  | .local _ .vmem, ⟨21, _⟩ => ⟨S1024x128, .f32⟩
  | .local _ .vmem, ⟨22, _⟩ => ⟨S1x128, .f32⟩
  | .local _ .vmem, ⟨23, _⟩ => ⟨S8x128, .f32⟩
  | .local _ .vmem, ⟨24, _⟩ => ⟨S8x128, .f32⟩
  | .local _ .vmem, ⟨25, _⟩ => ⟨S32x8x2048, .f32⟩
  | .local _ .vmem, ⟨26, _⟩ => ⟨S32x8x2048, .f32⟩
  | .local _ .vmem, ⟨27, _⟩ => ⟨S32x8x16, .f32⟩
  | .local _ .vmem, ⟨28, _⟩ => ⟨S32x8x16, .f32⟩
  | .local _ .vmem, ⟨29, _⟩ => ⟨S32x8x2048, .f32⟩
  | _, _ => ⟨S64x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg22_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_scratch4 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem22_1 : DmaSem sig := 24

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c32_i32 : BitVec 32 := 32#32
  let v141 : BitVec 32 := Scalar.addi c0_i32 c32_i32
  let c1_i32 : BitVec 32 := 1#32
  ⟨c0_i32, v141, c1_i32⟩
def k0_off1 (k0_t1 : Fin k0_t1_loop.trips) : Fin 3 → Nat :=
  let c0_i32 : BitVec 32 := 0#32
  let c1_i32 : BitVec 32 := 1#32
  let arg29 : BitVec 32 := Scf.iv c0_i32 c1_i32 k0_t1
  let v928 : Index := Scalar.indexCast arg29
  let c0_346 : Index := 0#32
  let c0_347 : Index := 0#32
  ![v928.toNat, 0, 0]
def k0_off2 (k0_t1 : Fin k0_t1_loop.trips) : Fin 3 → Nat :=
  let c0_i32 : BitVec 32 := 0#32
  let c1_i32 : BitVec 32 := 1#32
  let arg29 : BitVec 32 := Scf.iv c0_i32 c1_i32 k0_t1
  let v934 : Index := Scalar.indexCast arg29
  let c0_350 : Index := 0#32
  let c0_351 : Index := 0#32
  ![v934.toNat, 0, 0]
@[reducible] def k0_t2_loop : Scf.Loop 32 :=
  let c0_i32_141 : BitVec 32 := 0#32
  let c32_i32_142 : BitVec 32 := 32#32
  let v377 : BitVec 32 := Scalar.addi c0_i32_141 c32_i32_142
  let c1_i32_143 : BitVec 32 := 1#32
  ⟨c0_i32_141, v377, c1_i32_143⟩
def k0_off3 (k0_t2 : Fin k0_t2_loop.trips) : Fin 3 → Nat :=
  let c0_i32_141 : BitVec 32 := 0#32
  let c1_i32_143 : BitVec 32 := 1#32
  let arg29 : BitVec 32 := Scf.iv c0_i32_141 c1_i32_143 k0_t2
  let v928 : Index := Scalar.indexCast arg29
  let c0_346 : Index := 0#32
  let c0_347 : Index := 0#32
  ![v928.toNat, 0, 0]
def k0_off4 (k0_t2 : Fin k0_t2_loop.trips) : Fin 3 → Nat :=
  let c0_i32_141 : BitVec 32 := 0#32
  let c1_i32_143 : BitVec 32 := 1#32
  let arg29 : BitVec 32 := Scf.iv c0_i32_141 c1_i32_143 k0_t2
  let v934 : Index := Scalar.indexCast arg29
  let c0_350 : Index := 0#32
  let c0_351 : Index := 0#32
  ![v934.toNat, 0, 0]
@[reducible] def k0_t3_loop : Scf.Loop 32 :=
  let c0_i32_223 : BitVec 32 := 0#32
  let c32_i32_224 : BitVec 32 := 32#32
  let v613 : BitVec 32 := Scalar.addi c0_i32_223 c32_i32_224
  let c1_i32_225 : BitVec 32 := 1#32
  ⟨c0_i32_223, v613, c1_i32_225⟩
def k0_off5 (k0_t3 : Fin k0_t3_loop.trips) : Fin 3 → Nat :=
  let c0_i32_223 : BitVec 32 := 0#32
  let c1_i32_225 : BitVec 32 := 1#32
  let arg29 : BitVec 32 := Scf.iv c0_i32_223 c1_i32_225 k0_t3
  let v928 : Index := Scalar.indexCast arg29
  let c0_346 : Index := 0#32
  let c0_347 : Index := 0#32
  ![v928.toNat, 0, 0]
def k0_off6 (k0_t3 : Fin k0_t3_loop.trips) : Fin 3 → Nat :=
  let c0_i32_223 : BitVec 32 := 0#32
  let c1_i32_225 : BitVec 32 := 1#32
  let arg29 : BitVec 32 := Scf.iv c0_i32_223 c1_i32_225 k0_t3
  let v934 : Index := Scalar.indexCast arg29
  let c0_350 : Index := 0#32
  let c0_351 : Index := 0#32
  ![v934.toNat, 0, 0]
@[reducible] def k0_t4_loop : Scf.Loop 32 :=
  let c0_i32_305 : BitVec 32 := 0#32
  let c32_i32_306 : BitVec 32 := 32#32
  let v849 : BitVec 32 := Scalar.addi c0_i32_305 c32_i32_306
  let c1_i32_307 : BitVec 32 := 1#32
  ⟨c0_i32_305, v849, c1_i32_307⟩
def k0_off7 (k0_t4 : Fin k0_t4_loop.trips) : Fin 3 → Nat :=
  let c0_i32_305 : BitVec 32 := 0#32
  let c1_i32_307 : BitVec 32 := 1#32
  let arg29 : BitVec 32 := Scf.iv c0_i32_305 c1_i32_307 k0_t4
  let v928 : Index := Scalar.indexCast arg29
  let c0_346 : Index := 0#32
  let c0_347 : Index := 0#32
  ![v928.toNat, 0, 0]
def k0_off8 (k0_t4 : Fin k0_t4_loop.trips) : Fin 3 → Nat :=
  let c0_i32_305 : BitVec 32 := 0#32
  let c1_i32_307 : BitVec 32 := 1#32
  let arg29 : BitVec 32 := Scf.iv c0_i32_305 c1_i32_307 k0_t4
  let v934 : Index := Scalar.indexCast arg29
  let c0_350 : Index := 0#32
  let c0_351 : Index := 0#32
  ![v934.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2048x16 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S16x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x2048 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S2048x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1024x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 2 → Memref sig .tc .vmem S8x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== ReferenceIdeal.lean ====
abbrev S64x32768 : Shape := ⟨2, ![64, 32768]⟩
abbrev S32x1x64 : Shape := ⟨3, ![32, 1, 64]⟩
abbrev S32 : Shape := ⟨1, ![32]⟩
abbrev S32x32x3 : Shape := ⟨3, ![32, 32, 3]⟩
abbrev S1024x4096 : Shape := ⟨2, ![1024, 4096]⟩
abbrev S2048x1x4 : Shape := ⟨3, ![2048, 1, 4]⟩
abbrev S2048 : Shape := ⟨1, ![2048]⟩
abbrev S2048x96 : Shape := ⟨2, ![2048, 96]⟩
abbrev S64x2048 : Shape := ⟨2, ![64, 2048]⟩
abbrev S2048x16 : Shape := ⟨2, ![2048, 16]⟩
abbrev S2048x1024 : Shape := ⟨2, ![2048, 1024]⟩
abbrev S1024 : Shape := ⟨1, ![1024]⟩
abbrev S1024x128 : Shape := ⟨2, ![1024, 128]⟩
abbrev S128 : Shape := ⟨1, ![128]⟩
abbrev S64x32x1024 : Shape := ⟨3, ![64, 32, 1024]⟩
abbrev S_ : Shape := ⟨0, ![]⟩
abbrev S64x32816 : Shape := ⟨2, ![64, 32816]⟩
abbrev S64x2051x16 : Shape := ⟨3, ![64, 2051, 16]⟩
abbrev S64x2048x16 : Shape := ⟨3, ![64, 2048, 16]⟩
abbrev S32x1x16 : Shape := ⟨3, ![32, 1, 16]⟩
abbrev S32x16 : Shape := ⟨2, ![32, 16]⟩
abbrev S32x64x2048 : Shape := ⟨3, ![32, 64, 2048]⟩
abbrev S64x32x2048 : Shape := ⟨3, ![64, 32, 2048]⟩
abbrev S1x32x1 : Shape := ⟨3, ![1, 32, 1]⟩
abbrev S64x32x1024x2 : Shape := ⟨4, ![64, 32, 1024, 2]⟩
abbrev S64x32x4096 : Shape := ⟨3, ![64, 32, 4096]⟩
abbrev S64x35x2048 : Shape := ⟨3, ![64, 35, 2048]⟩
abbrev S2048x1x1 : Shape := ⟨3, ![2048, 1, 1]⟩
abbrev S1x1x2048 : Shape := ⟨3, ![1, 1, 2048]⟩
abbrev S64x32x96 : Shape := ⟨3, ![64, 32, 96]⟩
abbrev S64x32x64 : Shape := ⟨3, ![64, 32, 64]⟩
abbrev S64x32x16 : Shape := ⟨3, ![64, 32, 16]⟩
abbrev S64x32x2048x1 : Shape := ⟨4, ![64, 32, 2048, 1]⟩
abbrev S1x1x2048x16 : Shape := ⟨4, ![1, 1, 2048, 16]⟩
abbrev S64x32x2048x16 : Shape := ⟨4, ![64, 32, 2048, 16]⟩
abbrev S64x32x1x16 : Shape := ⟨4, ![64, 32, 1, 16]⟩
abbrev S64x1x2048x16 : Shape := ⟨4, ![64, 1, 2048, 16]⟩
abbrev S64x16x2048x16 : Shape := ⟨4, ![64, 16, 2048, 16]⟩
abbrev S64x32x1026 : Shape := ⟨3, ![64, 32, 1026]⟩
abbrev S32x32x1 : Shape := ⟨3, ![32, 32, 1]⟩
abbrev S32x32 : Shape := ⟨2, ![32, 32]⟩
abbrev S32x64x1024 : Shape := ⟨3, ![32, 64, 1024]⟩
abbrev S64x32 : Shape := ⟨2, ![64, 32]⟩
abbrev S64x32x1 : Shape := ⟨3, ![64, 32, 1]⟩
abbrev S1x1x1024 : Shape := ⟨3, ![1, 1, 1024]⟩
abbrev S64x1024 : Shape := ⟨2, ![64, 1024]⟩
abbrev S64x128 : Shape := ⟨2, ![64, 128]⟩
abbrev S1x128 : Shape := ⟨2, ![1, 128]⟩

abbrev nBuf : Space → Nat
  | .hbm => 390
  | .vmem => 0
  | .smem => 0
  | _ => 0

abbrev hbmTy0_0 (i : Nat) : BufTy := match i % 128 with
  | 0 => ⟨S64x32768, .f32⟩
  | 1 => ⟨S32x1x64, .f32⟩
  | 2 => ⟨S32, .f32⟩
  | 3 => ⟨S32x32x3, .f32⟩
  | 4 => ⟨S32, .f32⟩
  | 5 => ⟨S1024x4096, .f32⟩
  | 6 => ⟨S2048x1x4, .f32⟩
  | 7 => ⟨S2048, .f32⟩
  | 8 => ⟨S2048x96, .f32⟩
  | 9 => ⟨S64x2048, .f32⟩
  | 10 => ⟨S2048, .f32⟩
  | 11 => ⟨S2048x16, .f32⟩
  | 12 => ⟨S2048, .f32⟩
  | 13 => ⟨S2048x1024, .f32⟩
  | 14 => ⟨S1024, .f32⟩
  | 15 => ⟨S1024, .f32⟩
  | 16 => ⟨S1024x128, .f32⟩
  | 17 => ⟨S128, .f32⟩
  | 18 => ⟨S64x32x1024, .f32⟩
  | 19 => ⟨S_, .i32⟩
  | 20 => ⟨S_, .i32⟩
  | 21 => ⟨S32x1x64, .f32⟩
  | 22 => ⟨S32, .f32⟩
  | 23 => ⟨S1024x4096, .f32⟩
  | 24 => ⟨S2048x1x4, .f32⟩
  | 25 => ⟨S2048, .f32⟩
  | 26 => ⟨S2048x96, .f32⟩
  | 27 => ⟨S64x2048, .f32⟩
  | 28 => ⟨S2048, .f32⟩
  | 29 => ⟨S2048x16, .f32⟩
  | 30 => ⟨S2048, .f32⟩
  | 31 => ⟨S2048x1024, .f32⟩
  | 32 => ⟨S32x32x3, .f32⟩
  | 33 => ⟨S32, .f32⟩
  | 34 => ⟨S_, .i32⟩
  | 35 => ⟨S_, .i32⟩
  | 36 => ⟨S64x32x1024, .f32⟩
  | 37 => ⟨S_, .i32⟩
  | 38 => ⟨S_, .i1⟩
  | 39 => ⟨S_, .i32⟩
  | 40 => ⟨S_, .i32⟩
  | 41 => ⟨S64x32768, .f32⟩
  | 42 => ⟨S_, .i32⟩
  | 43 => ⟨S_, .f32⟩
  | 44 => ⟨S64x32816, .f32⟩
  | 45 => ⟨S64x2051x16, .f32⟩
  | 46 => ⟨S64x2048x16, .f32⟩
  | 47 => ⟨S32x1x16, .f32⟩
  | 48 => ⟨S32x16, .f32⟩
  | 49 => ⟨S32x64x2048, .f32⟩
  | 50 => ⟨S64x32x2048, .f32⟩
  | 51 => ⟨S_, .f32⟩
  | 52 => ⟨S64x32x2048, .f32⟩
  | 53 => ⟨S64x32x2048, .f32⟩
  | 54 => ⟨S64x2048x16, .f32⟩
  | 55 => ⟨S32x1x16, .f32⟩
  | 56 => ⟨S32x16, .f32⟩
  | 57 => ⟨S32x64x2048, .f32⟩
  | 58 => ⟨S64x32x2048, .f32⟩
  | 59 => ⟨S64x32x2048, .f32⟩
  | 60 => ⟨S64x2048x16, .f32⟩
  | 61 => ⟨S32x1x16, .f32⟩
  | 62 => ⟨S32x16, .f32⟩
  | 63 => ⟨S32x64x2048, .f32⟩
  | 64 => ⟨S64x32x2048, .f32⟩
  | 65 => ⟨S64x32x2048, .f32⟩
  | 66 => ⟨S64x2048x16, .f32⟩
  | 67 => ⟨S32x1x16, .f32⟩
  | 68 => ⟨S32x16, .f32⟩
  | 69 => ⟨S32x64x2048, .f32⟩
  | 70 => ⟨S64x32x2048, .f32⟩
  | 71 => ⟨S64x32x2048, .f32⟩
  | 72 => ⟨S1x32x1, .f32⟩
  | 73 => ⟨S64x32x2048, .f32⟩
  | 74 => ⟨S64x32x2048, .f32⟩
  | 75 => ⟨S_, .f32⟩
  | 76 => ⟨S64x32x2048, .f32⟩
  | 77 => ⟨S64x32x2048, .f32⟩
  | 78 => ⟨S64x32x1024x2, .f32⟩
  | 79 => ⟨S_, .f32⟩
  | 80 => ⟨S64x32x1024, .f32⟩
  | 81 => ⟨S_, .f32⟩
  | 82 => ⟨S64x32x1024, .f32⟩
  | 83 => ⟨S64x32x1024, .f32⟩
  | 84 => ⟨S64x32x4096, .f32⟩
  | 85 => ⟨S64x32x2048, .f32⟩
  | 86 => ⟨S64x32x2048, .f32⟩
  | 87 => ⟨S_, .i32⟩
  | 88 => ⟨S_, .f32⟩
  | 89 => ⟨S64x35x2048, .f32⟩
  | 90 => ⟨S64x32x2048, .f32⟩
  | 91 => ⟨S2048x1x1, .f32⟩
  | 92 => ⟨S2048, .f32⟩
  | 93 => ⟨S1x1x2048, .f32⟩
  | 94 => ⟨S64x32x2048, .f32⟩
  | 95 => ⟨S64x32x2048, .f32⟩
  | 96 => ⟨S_, .f32⟩
  | 97 => ⟨S64x32x2048, .f32⟩
  | 98 => ⟨S64x32x2048, .f32⟩
  | 99 => ⟨S64x32x2048, .f32⟩
  | 100 => ⟨S2048x1x1, .f32⟩
  | 101 => ⟨S2048, .f32⟩
  | 102 => ⟨S1x1x2048, .f32⟩
  | 103 => ⟨S64x32x2048, .f32⟩
  | 104 => ⟨S64x32x2048, .f32⟩
  | 105 => ⟨S64x32x2048, .f32⟩
  | 106 => ⟨S64x32x2048, .f32⟩
  | 107 => ⟨S2048x1x1, .f32⟩
  | 108 => ⟨S2048, .f32⟩
  | 109 => ⟨S1x1x2048, .f32⟩
  | 110 => ⟨S64x32x2048, .f32⟩
  | 111 => ⟨S64x32x2048, .f32⟩
  | 112 => ⟨S64x32x2048, .f32⟩
  | 113 => ⟨S64x32x2048, .f32⟩
  | 114 => ⟨S2048x1x1, .f32⟩
  | 115 => ⟨S2048, .f32⟩
  | 116 => ⟨S1x1x2048, .f32⟩
  | 117 => ⟨S64x32x2048, .f32⟩
  | 118 => ⟨S64x32x2048, .f32⟩
  | 119 => ⟨S64x32x2048, .f32⟩
  | 120 => ⟨S1x1x2048, .f32⟩
  | 121 => ⟨S64x32x2048, .f32⟩
  | 122 => ⟨S64x32x2048, .f32⟩
  | 123 => ⟨S64x32x2048, .f32⟩
  | 124 => ⟨S64x32x2048, .f32⟩
  | 125 => ⟨S_, .f32⟩
  | 126 => ⟨S64x32x2048, .f32⟩
  | 127 => ⟨S64x32x2048, .f32⟩
  | _ => ⟨S64x32768, .f32⟩

abbrev hbmTy0_1 (i : Nat) : BufTy := match i % 128 with
  | 0 => ⟨S_, .f32⟩
  | 1 => ⟨S64x32x2048, .f32⟩
  | 2 => ⟨S64x32x2048, .f32⟩
  | 3 => ⟨S64x32x2048, .f32⟩
  | 4 => ⟨S64x32x96, .f32⟩
  | 5 => ⟨S64x32x64, .f32⟩
  | 6 => ⟨S64x32x16, .f32⟩
  | 7 => ⟨S64x32x16, .f32⟩
  | 8 => ⟨S64x32x2048, .f32⟩
  | 9 => ⟨S1x1x2048, .f32⟩
  | 10 => ⟨S64x32x2048, .f32⟩
  | 11 => ⟨S64x32x2048, .f32⟩
  | 12 => ⟨S_, .f32⟩
  | 13 => ⟨S64x32x2048, .f32⟩
  | 14 => ⟨S64x32x2048, .f32⟩
  | 15 => ⟨S64x32x2048, .f32⟩
  | 16 => ⟨S64x32x2048, .f32⟩
  | 17 => ⟨S64x32x2048, .i1⟩
  | 18 => ⟨S64x32x2048, .f32⟩
  | 19 => ⟨S64x32x2048, .f32⟩
  | 20 => ⟨S64x32x2048, .f32⟩
  | 21 => ⟨S64x32x2048, .f32⟩
  | 22 => ⟨S64x32x2048, .f32⟩
  | 23 => ⟨S64x32x2048, .f32⟩
  | 24 => ⟨S64x32x2048, .f32⟩
  | 25 => ⟨S64x32x2048, .f32⟩
  | 26 => ⟨S2048x16, .f32⟩
  | 27 => ⟨S2048x16, .f32⟩
  | 28 => ⟨S64x32x2048x1, .f32⟩
  | 29 => ⟨S1x1x2048x16, .f32⟩
  | 30 => ⟨S64x32x2048x16, .f32⟩
  | 31 => ⟨S64x32x2048x16, .f32⟩
  | 32 => ⟨S64x32x2048x16, .f32⟩
  | 33 => ⟨S64x32x2048x16, .f32⟩
  | 34 => ⟨S64x32x2048x1, .f32⟩
  | 35 => ⟨S64x32x1x16, .f32⟩
  | 36 => ⟨S64x32x2048x16, .f32⟩
  | 37 => ⟨S64x32x2048x16, .f32⟩
  | 38 => ⟨S64x32x2048x16, .f32⟩
  | 39 => ⟨S64x32x2048x1, .f32⟩
  | 40 => ⟨S64x32x2048x16, .f32⟩
  | 41 => ⟨S64x32x2048x16, .f32⟩
  | 42 => ⟨S_, .f32⟩
  | 43 => ⟨S64x1x2048x16, .f32⟩
  | 44 => ⟨S64x1x2048x16, .f32⟩
  | 45 => ⟨S64x1x2048x16, .f32⟩
  | 46 => ⟨S64x1x2048x16, .f32⟩
  | 47 => ⟨S64x1x2048x16, .f32⟩
  | 48 => ⟨S64x1x2048x16, .f32⟩
  | 49 => ⟨S64x1x2048x16, .f32⟩
  | 50 => ⟨S64x1x2048x16, .f32⟩
  | 51 => ⟨S64x1x2048x16, .f32⟩
  | 52 => ⟨S64x1x2048x16, .f32⟩
  | 53 => ⟨S64x1x2048x16, .f32⟩
  | 54 => ⟨S64x1x2048x16, .f32⟩
  | 55 => ⟨S64x1x2048x16, .f32⟩
  | 56 => ⟨S64x1x2048x16, .f32⟩
  | 57 => ⟨S64x1x2048x16, .f32⟩
  | 58 => ⟨S64x1x2048x16, .f32⟩
  | 59 => ⟨S64x1x2048x16, .f32⟩
  | 60 => ⟨S64x1x2048x16, .f32⟩
  | 61 => ⟨S64x1x2048x16, .f32⟩
  | 62 => ⟨S64x1x2048x16, .f32⟩
  | 63 => ⟨S64x1x2048x16, .f32⟩
  | 64 => ⟨S64x1x2048x16, .f32⟩
  | 65 => ⟨S64x1x2048x16, .f32⟩
  | 66 => ⟨S64x1x2048x16, .f32⟩
  | 67 => ⟨S64x1x2048x16, .f32⟩
  | 68 => ⟨S64x1x2048x16, .f32⟩
  | 69 => ⟨S64x1x2048x16, .f32⟩
  | 70 => ⟨S64x1x2048x16, .f32⟩
  | 71 => ⟨S64x1x2048x16, .f32⟩
  | 72 => ⟨S64x1x2048x16, .f32⟩
  | 73 => ⟨S64x1x2048x16, .f32⟩
  | 74 => ⟨S64x1x2048x16, .f32⟩
  | 75 => ⟨S64x1x2048x16, .f32⟩
  | 76 => ⟨S64x1x2048x16, .f32⟩
  | 77 => ⟨S64x1x2048x16, .f32⟩
  | 78 => ⟨S64x1x2048x16, .f32⟩
  | 79 => ⟨S64x1x2048x16, .f32⟩
  | 80 => ⟨S64x1x2048x16, .f32⟩
  | 81 => ⟨S64x1x2048x16, .f32⟩
  | 82 => ⟨S64x1x2048x16, .f32⟩
  | 83 => ⟨S64x1x2048x16, .f32⟩
  | 84 => ⟨S64x1x2048x16, .f32⟩
  | 85 => ⟨S64x1x2048x16, .f32⟩
  | 86 => ⟨S64x1x2048x16, .f32⟩
  | 87 => ⟨S64x1x2048x16, .f32⟩
  | 88 => ⟨S64x1x2048x16, .f32⟩
  | 89 => ⟨S64x1x2048x16, .f32⟩
  | 90 => ⟨S64x1x2048x16, .f32⟩
  | 91 => ⟨S64x1x2048x16, .f32⟩
  | 92 => ⟨S64x1x2048x16, .f32⟩
  | 93 => ⟨S64x1x2048x16, .f32⟩
  | 94 => ⟨S64x1x2048x16, .f32⟩
  | 95 => ⟨S64x1x2048x16, .f32⟩
  | 96 => ⟨S64x1x2048x16, .f32⟩
  | 97 => ⟨S64x1x2048x16, .f32⟩
  | 98 => ⟨S64x1x2048x16, .f32⟩
  | 99 => ⟨S64x1x2048x16, .f32⟩
  | 100 => ⟨S64x1x2048x16, .f32⟩
  | 101 => ⟨S64x1x2048x16, .f32⟩
  | 102 => ⟨S64x1x2048x16, .f32⟩
  | 103 => ⟨S64x1x2048x16, .f32⟩
  | 104 => ⟨S64x1x2048x16, .f32⟩
  | 105 => ⟨S64x1x2048x16, .f32⟩
  | 106 => ⟨S64x1x2048x16, .f32⟩
  | 107 => ⟨S64x1x2048x16, .f32⟩
  | 108 => ⟨S64x1x2048x16, .f32⟩
  | 109 => ⟨S64x1x2048x16, .f32⟩
  | 110 => ⟨S64x1x2048x16, .f32⟩
  | 111 => ⟨S64x1x2048x16, .f32⟩
  | 112 => ⟨S64x1x2048x16, .f32⟩
  | 113 => ⟨S64x1x2048x16, .f32⟩
  | 114 => ⟨S64x1x2048x16, .f32⟩
  | 115 => ⟨S64x1x2048x16, .f32⟩
  | 116 => ⟨S64x1x2048x16, .f32⟩
  | 117 => ⟨S64x1x2048x16, .f32⟩
  | 118 => ⟨S64x1x2048x16, .f32⟩
  | 119 => ⟨S64x1x2048x16, .f32⟩
  | 120 => ⟨S64x1x2048x16, .f32⟩
  | 121 => ⟨S64x1x2048x16, .f32⟩
  | 122 => ⟨S64x1x2048x16, .f32⟩
  | 123 => ⟨S64x1x2048x16, .f32⟩
  | 124 => ⟨S64x1x2048x16, .f32⟩
  | 125 => ⟨S64x1x2048x16, .f32⟩
  | 126 => ⟨S64x1x2048x16, .f32⟩
  | 127 => ⟨S64x1x2048x16, .f32⟩
  | _ => ⟨S64x32768, .f32⟩

abbrev hbmTy0_2 (i : Nat) : BufTy := match i % 128 with
  | 0 => ⟨S64x1x2048x16, .f32⟩
  | 1 => ⟨S64x1x2048x16, .f32⟩
  | 2 => ⟨S64x1x2048x16, .f32⟩
  | 3 => ⟨S64x1x2048x16, .f32⟩
  | 4 => ⟨S64x1x2048x16, .f32⟩
  | 5 => ⟨S64x1x2048x16, .f32⟩
  | 6 => ⟨S64x1x2048x16, .f32⟩
  | 7 => ⟨S64x1x2048x16, .f32⟩
  | 8 => ⟨S64x1x2048x16, .f32⟩
  | 9 => ⟨S64x1x2048x16, .f32⟩
  | 10 => ⟨S64x1x2048x16, .f32⟩
  | 11 => ⟨S64x1x2048x16, .f32⟩
  | 12 => ⟨S64x1x2048x16, .f32⟩
  | 13 => ⟨S64x1x2048x16, .f32⟩
  | 14 => ⟨S64x1x2048x16, .f32⟩
  | 15 => ⟨S64x1x2048x16, .f32⟩
  | 16 => ⟨S64x1x2048x16, .f32⟩
  | 17 => ⟨S64x1x2048x16, .f32⟩
  | 18 => ⟨S64x1x2048x16, .f32⟩
  | 19 => ⟨S64x1x2048x16, .f32⟩
  | 20 => ⟨S64x1x2048x16, .f32⟩
  | 21 => ⟨S64x1x2048x16, .f32⟩
  | 22 => ⟨S64x1x2048x16, .f32⟩
  | 23 => ⟨S64x1x2048x16, .f32⟩
  | 24 => ⟨S64x1x2048x16, .f32⟩
  | 25 => ⟨S64x1x2048x16, .f32⟩
  | 26 => ⟨S64x1x2048x16, .f32⟩
  | 27 => ⟨S64x1x2048x16, .f32⟩
  | 28 => ⟨S64x1x2048x16, .f32⟩
  | 29 => ⟨S64x1x2048x16, .f32⟩
  | 30 => ⟨S64x1x2048x16, .f32⟩
  | 31 => ⟨S64x1x2048x16, .f32⟩
  | 32 => ⟨S64x1x2048x16, .f32⟩
  | 33 => ⟨S64x1x2048x16, .f32⟩
  | 34 => ⟨S64x1x2048x16, .f32⟩
  | 35 => ⟨S64x1x2048x16, .f32⟩
  | 36 => ⟨S64x1x2048x16, .f32⟩
  | 37 => ⟨S64x1x2048x16, .f32⟩
  | 38 => ⟨S64x1x2048x16, .f32⟩
  | 39 => ⟨S64x1x2048x16, .f32⟩
  | 40 => ⟨S64x1x2048x16, .f32⟩
  | 41 => ⟨S64x1x2048x16, .f32⟩
  | 42 => ⟨S64x1x2048x16, .f32⟩
  | 43 => ⟨S64x1x2048x16, .f32⟩
  | 44 => ⟨S64x16x2048x16, .f32⟩
  | 45 => ⟨S64x16x2048x16, .f32⟩
  | 46 => ⟨S64x32x2048x16, .f32⟩
  | 47 => ⟨S64x32x2048, .f32⟩
  | 48 => ⟨S1x1x2048, .f32⟩
  | 49 => ⟨S64x32x2048, .f32⟩
  | 50 => ⟨S64x32x2048, .f32⟩
  | 51 => ⟨S64x32x2048, .f32⟩
  | 52 => ⟨S64x32x2048, .f32⟩
  | 53 => ⟨S64x32x2048, .f32⟩
  | 54 => ⟨S_, .f32⟩
  | 55 => ⟨S64x32x2048, .f32⟩
  | 56 => ⟨S64x32x2048, .f32⟩
  | 57 => ⟨S_, .f32⟩
  | 58 => ⟨S64x32x2048, .f32⟩
  | 59 => ⟨S64x32x2048, .f32⟩
  | 60 => ⟨S64x32x2048, .f32⟩
  | 61 => ⟨S64x32x2048, .f32⟩
  | 62 => ⟨S64x32x1024, .f32⟩
  | 63 => ⟨S64x32x1024, .f32⟩
  | 64 => ⟨S_, .i32⟩
  | 65 => ⟨S_, .f32⟩
  | 66 => ⟨S64x32x1026, .f32⟩
  | 67 => ⟨S64x32x1024, .f32⟩
  | 68 => ⟨S32x32x1, .f32⟩
  | 69 => ⟨S32x32, .f32⟩
  | 70 => ⟨S32x64x1024, .f32⟩
  | 71 => ⟨S64x32x1024, .f32⟩
  | 72 => ⟨S_, .f32⟩
  | 73 => ⟨S64x32x1024, .f32⟩
  | 74 => ⟨S64x32x1024, .f32⟩
  | 75 => ⟨S64x32x1024, .f32⟩
  | 76 => ⟨S32x32x1, .f32⟩
  | 77 => ⟨S32x32, .f32⟩
  | 78 => ⟨S32x64x1024, .f32⟩
  | 79 => ⟨S64x32x1024, .f32⟩
  | 80 => ⟨S64x32x1024, .f32⟩
  | 81 => ⟨S64x32x1024, .f32⟩
  | 82 => ⟨S32x32x1, .f32⟩
  | 83 => ⟨S32x32, .f32⟩
  | 84 => ⟨S32x64x1024, .f32⟩
  | 85 => ⟨S64x32x1024, .f32⟩
  | 86 => ⟨S64x32x1024, .f32⟩
  | 87 => ⟨S1x32x1, .f32⟩
  | 88 => ⟨S64x32x1024, .f32⟩
  | 89 => ⟨S64x32x1024, .f32⟩
  | 90 => ⟨S_, .f32⟩
  | 91 => ⟨S64x32x1024, .f32⟩
  | 92 => ⟨S64x32x1024, .f32⟩
  | 93 => ⟨S64x32x1024, .f32⟩
  | 94 => ⟨S_, .i32⟩
  | 95 => ⟨S_, .i32⟩
  | 96 => ⟨S_, .f32⟩
  | 97 => ⟨S64x32, .f32⟩
  | 98 => ⟨S64x32x1, .f32⟩
  | 99 => ⟨S_, .f32⟩
  | 100 => ⟨S64x32x1, .f32⟩
  | 101 => ⟨S64x32x1, .f32⟩
  | 102 => ⟨S64x32x1024, .f32⟩
  | 103 => ⟨S64x32x1024, .f32⟩
  | 104 => ⟨S64x32x1024, .f32⟩
  | 105 => ⟨S_, .f32⟩
  | 106 => ⟨S64x32, .f32⟩
  | 107 => ⟨S64x32x1, .f32⟩
  | 108 => ⟨S_, .f32⟩
  | 109 => ⟨S64x32x1, .f32⟩
  | 110 => ⟨S64x32x1, .f32⟩
  | 111 => ⟨S64x32x1024, .f32⟩
  | 112 => ⟨S64x32x1024, .f32⟩
  | 113 => ⟨S_, .f32⟩
  | 114 => ⟨S64x32x1, .f32⟩
  | 115 => ⟨S64x32x1, .f32⟩
  | 116 => ⟨S64x32x1, .f32⟩
  | 117 => ⟨S64x32x1024, .f32⟩
  | 118 => ⟨S64x32x1024, .f32⟩
  | 119 => ⟨S1x1x1024, .f32⟩
  | 120 => ⟨S64x32x1024, .f32⟩
  | 121 => ⟨S64x32x1024, .f32⟩
  | 122 => ⟨S1x1x1024, .f32⟩
  | 123 => ⟨S64x32x1024, .f32⟩
  | 124 => ⟨S64x32x1024, .f32⟩
  | 125 => ⟨S_, .f32⟩
  | 126 => ⟨S64x1024, .f32⟩
  | 127 => ⟨S_, .f32⟩
  | _ => ⟨S64x32768, .f32⟩

abbrev hbmTy0_3 (i : Nat) : BufTy := match i % 128 with
  | 0 => ⟨S64x1024, .f32⟩
  | 1 => ⟨S64x1024, .f32⟩
  | 2 => ⟨S64x128, .f32⟩
  | 3 => ⟨S1x128, .f32⟩
  | 4 => ⟨S64x128, .f32⟩
  | 5 => ⟨S64x128, .f32⟩
  | _ => ⟨S64x32768, .f32⟩

abbrev hbmTy (i : Nat) : BufTy := match i / 128 with
  | 0 => hbmTy0_0 i
  | 1 => hbmTy0_1 i
  | 2 => hbmTy0_2 i
  | 3 => hbmTy0_3 i
  | _ => ⟨S64x32768, .f32⟩

abbrev bufTy : (tb : Table) → Fin (tcTables nBuf tb) → BufTy
  | .hbm, ⟨i, _⟩ => hbmTy i
  | _, _ => ⟨S64x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_c : Ref sig .tc := ⟨.hbm, 19, rfl⟩
abbrev main_c_0 : Ref sig .tc := ⟨.hbm, 20, rfl⟩
abbrev main_v1_0 : Ref sig .tc := ⟨.hbm, 21, rfl⟩
abbrev main_v1_1 : Ref sig .tc := ⟨.hbm, 22, rfl⟩
abbrev main_v1_2 : Ref sig .tc := ⟨.hbm, 23, rfl⟩
abbrev main_v1_3 : Ref sig .tc := ⟨.hbm, 24, rfl⟩
abbrev main_v1_4 : Ref sig .tc := ⟨.hbm, 25, rfl⟩
abbrev main_v1_5 : Ref sig .tc := ⟨.hbm, 26, rfl⟩
abbrev main_v1_6 : Ref sig .tc := ⟨.hbm, 27, rfl⟩
abbrev main_v1_7 : Ref sig .tc := ⟨.hbm, 28, rfl⟩
abbrev main_v1_8 : Ref sig .tc := ⟨.hbm, 29, rfl⟩
abbrev main_v1_9 : Ref sig .tc := ⟨.hbm, 30, rfl⟩
abbrev main_v1_10 : Ref sig .tc := ⟨.hbm, 31, rfl⟩
abbrev main_v1_11 : Ref sig .tc := ⟨.hbm, 32, rfl⟩
abbrev main_v1_12 : Ref sig .tc := ⟨.hbm, 33, rfl⟩
abbrev main_v1_13 : Ref sig .tc := ⟨.hbm, 34, rfl⟩
abbrev main_v1_14 : Ref sig .tc := ⟨.hbm, 35, rfl⟩
abbrev main_v1_15 : Ref sig .tc := ⟨.hbm, 36, rfl⟩
abbrev main_while0c_c_22 : Ref sig .tc := ⟨.hbm, 37, rfl⟩
abbrev main_while0c_v33 : Ref sig .tc := ⟨.hbm, 38, rfl⟩
abbrev main_while0b_c_22 : Ref sig .tc := ⟨.hbm, 39, rfl⟩
abbrev main_while0b_v33 : Ref sig .tc := ⟨.hbm, 40, rfl⟩
abbrev main_while0b_v34 : Ref sig .tc := ⟨.hbm, 41, rfl⟩
abbrev main_while0b_c_23 : Ref sig .tc := ⟨.hbm, 42, rfl⟩
abbrev main_while0b_call0_v0 : Ref sig .tc := ⟨.hbm, 43, rfl⟩
abbrev main_while0b_v35 : Ref sig .tc := ⟨.hbm, 44, rfl⟩
abbrev main_while0b_v36 : Ref sig .tc := ⟨.hbm, 45, rfl⟩
abbrev main_while0b_v37 : Ref sig .tc := ⟨.hbm, 46, rfl⟩
abbrev main_while0b_v38 : Ref sig .tc := ⟨.hbm, 47, rfl⟩
abbrev main_while0b_v39 : Ref sig .tc := ⟨.hbm, 48, rfl⟩
abbrev main_while0b_v40 : Ref sig .tc := ⟨.hbm, 49, rfl⟩
abbrev main_while0b_v41 : Ref sig .tc := ⟨.hbm, 50, rfl⟩
abbrev main_while0b_cst_24 : Ref sig .tc := ⟨.hbm, 51, rfl⟩
abbrev main_while0b_v42 : Ref sig .tc := ⟨.hbm, 52, rfl⟩
abbrev main_while0b_v43 : Ref sig .tc := ⟨.hbm, 53, rfl⟩
abbrev main_while0b_v44 : Ref sig .tc := ⟨.hbm, 54, rfl⟩
abbrev main_while0b_v45 : Ref sig .tc := ⟨.hbm, 55, rfl⟩
abbrev main_while0b_v46 : Ref sig .tc := ⟨.hbm, 56, rfl⟩
abbrev main_while0b_v47 : Ref sig .tc := ⟨.hbm, 57, rfl⟩
abbrev main_while0b_v48 : Ref sig .tc := ⟨.hbm, 58, rfl⟩
abbrev main_while0b_v49 : Ref sig .tc := ⟨.hbm, 59, rfl⟩
abbrev main_while0b_v50 : Ref sig .tc := ⟨.hbm, 60, rfl⟩
abbrev main_while0b_v51 : Ref sig .tc := ⟨.hbm, 61, rfl⟩
abbrev main_while0b_v52 : Ref sig .tc := ⟨.hbm, 62, rfl⟩
abbrev main_while0b_v53 : Ref sig .tc := ⟨.hbm, 63, rfl⟩
abbrev main_while0b_v54 : Ref sig .tc := ⟨.hbm, 64, rfl⟩
abbrev main_while0b_v55 : Ref sig .tc := ⟨.hbm, 65, rfl⟩
abbrev main_while0b_v56 : Ref sig .tc := ⟨.hbm, 66, rfl⟩
abbrev main_while0b_v57 : Ref sig .tc := ⟨.hbm, 67, rfl⟩
abbrev main_while0b_v58 : Ref sig .tc := ⟨.hbm, 68, rfl⟩
abbrev main_while0b_v59 : Ref sig .tc := ⟨.hbm, 69, rfl⟩
abbrev main_while0b_v60 : Ref sig .tc := ⟨.hbm, 70, rfl⟩
abbrev main_while0b_v61 : Ref sig .tc := ⟨.hbm, 71, rfl⟩
abbrev main_while0b_v62 : Ref sig .tc := ⟨.hbm, 72, rfl⟩
abbrev main_while0b_v63 : Ref sig .tc := ⟨.hbm, 73, rfl⟩
abbrev main_while0b_v64 : Ref sig .tc := ⟨.hbm, 74, rfl⟩
abbrev main_while0b_cst_25 : Ref sig .tc := ⟨.hbm, 75, rfl⟩
abbrev main_while0b_v65 : Ref sig .tc := ⟨.hbm, 76, rfl⟩
abbrev main_while0b_v66 : Ref sig .tc := ⟨.hbm, 77, rfl⟩
abbrev main_while0b_v67 : Ref sig .tc := ⟨.hbm, 78, rfl⟩
abbrev main_while0b_cst_26 : Ref sig .tc := ⟨.hbm, 79, rfl⟩
abbrev main_while0b_v68 : Ref sig .tc := ⟨.hbm, 80, rfl⟩
abbrev main_while0b_cst_27 : Ref sig .tc := ⟨.hbm, 81, rfl⟩
abbrev main_while0b_v69 : Ref sig .tc := ⟨.hbm, 82, rfl⟩
abbrev main_while0b_v70 : Ref sig .tc := ⟨.hbm, 83, rfl⟩
abbrev main_while0b_v71 : Ref sig .tc := ⟨.hbm, 84, rfl⟩
abbrev main_while0b_v72 : Ref sig .tc := ⟨.hbm, 85, rfl⟩
abbrev main_while0b_v73 : Ref sig .tc := ⟨.hbm, 86, rfl⟩
abbrev main_while0b_c_28 : Ref sig .tc := ⟨.hbm, 87, rfl⟩
abbrev main_while0b_call1_v0 : Ref sig .tc := ⟨.hbm, 88, rfl⟩
abbrev main_while0b_v74 : Ref sig .tc := ⟨.hbm, 89, rfl⟩
abbrev main_while0b_v75 : Ref sig .tc := ⟨.hbm, 90, rfl⟩
abbrev main_while0b_v76 : Ref sig .tc := ⟨.hbm, 91, rfl⟩
abbrev main_while0b_v77 : Ref sig .tc := ⟨.hbm, 92, rfl⟩
abbrev main_while0b_v78 : Ref sig .tc := ⟨.hbm, 93, rfl⟩
abbrev main_while0b_v79 : Ref sig .tc := ⟨.hbm, 94, rfl⟩
abbrev main_while0b_v80 : Ref sig .tc := ⟨.hbm, 95, rfl⟩
abbrev main_while0b_cst_29 : Ref sig .tc := ⟨.hbm, 96, rfl⟩
abbrev main_while0b_v81 : Ref sig .tc := ⟨.hbm, 97, rfl⟩
abbrev main_while0b_v82 : Ref sig .tc := ⟨.hbm, 98, rfl⟩
abbrev main_while0b_v83 : Ref sig .tc := ⟨.hbm, 99, rfl⟩
abbrev main_while0b_v84 : Ref sig .tc := ⟨.hbm, 100, rfl⟩
abbrev main_while0b_v85 : Ref sig .tc := ⟨.hbm, 101, rfl⟩
abbrev main_while0b_v86 : Ref sig .tc := ⟨.hbm, 102, rfl⟩
abbrev main_while0b_v87 : Ref sig .tc := ⟨.hbm, 103, rfl⟩
abbrev main_while0b_v88 : Ref sig .tc := ⟨.hbm, 104, rfl⟩
abbrev main_while0b_v89 : Ref sig .tc := ⟨.hbm, 105, rfl⟩
abbrev main_while0b_v90 : Ref sig .tc := ⟨.hbm, 106, rfl⟩
abbrev main_while0b_v91 : Ref sig .tc := ⟨.hbm, 107, rfl⟩
abbrev main_while0b_v92 : Ref sig .tc := ⟨.hbm, 108, rfl⟩
abbrev main_while0b_v93 : Ref sig .tc := ⟨.hbm, 109, rfl⟩
abbrev main_while0b_v94 : Ref sig .tc := ⟨.hbm, 110, rfl⟩
abbrev main_while0b_v95 : Ref sig .tc := ⟨.hbm, 111, rfl⟩
abbrev main_while0b_v96 : Ref sig .tc := ⟨.hbm, 112, rfl⟩
abbrev main_while0b_v97 : Ref sig .tc := ⟨.hbm, 113, rfl⟩
abbrev main_while0b_v98 : Ref sig .tc := ⟨.hbm, 114, rfl⟩
abbrev main_while0b_v99 : Ref sig .tc := ⟨.hbm, 115, rfl⟩
abbrev main_while0b_v100 : Ref sig .tc := ⟨.hbm, 116, rfl⟩
abbrev main_while0b_v101 : Ref sig .tc := ⟨.hbm, 117, rfl⟩
abbrev main_while0b_v102 : Ref sig .tc := ⟨.hbm, 118, rfl⟩
abbrev main_while0b_v103 : Ref sig .tc := ⟨.hbm, 119, rfl⟩
abbrev main_while0b_v104 : Ref sig .tc := ⟨.hbm, 120, rfl⟩
abbrev main_while0b_v105 : Ref sig .tc := ⟨.hbm, 121, rfl⟩
abbrev main_while0b_v106 : Ref sig .tc := ⟨.hbm, 122, rfl⟩
abbrev main_while0b_v107 : Ref sig .tc := ⟨.hbm, 123, rfl⟩
abbrev main_while0b_v108 : Ref sig .tc := ⟨.hbm, 124, rfl⟩
abbrev main_while0b_cst_30 : Ref sig .tc := ⟨.hbm, 125, rfl⟩
abbrev main_while0b_v109 : Ref sig .tc := ⟨.hbm, 126, rfl⟩
abbrev main_while0b_v110 : Ref sig .tc := ⟨.hbm, 127, rfl⟩
abbrev main_while0b_cst_31 : Ref sig .tc := ⟨.hbm, 128, rfl⟩
abbrev main_while0b_v111 : Ref sig .tc := ⟨.hbm, 129, rfl⟩
abbrev main_while0b_v112 : Ref sig .tc := ⟨.hbm, 130, rfl⟩
abbrev main_while0b_v113 : Ref sig .tc := ⟨.hbm, 131, rfl⟩
abbrev main_while0b_v114 : Ref sig .tc := ⟨.hbm, 132, rfl⟩
abbrev main_while0b_v115 : Ref sig .tc := ⟨.hbm, 133, rfl⟩
abbrev main_while0b_v116 : Ref sig .tc := ⟨.hbm, 134, rfl⟩
abbrev main_while0b_v117 : Ref sig .tc := ⟨.hbm, 135, rfl⟩
abbrev main_while0b_v118 : Ref sig .tc := ⟨.hbm, 136, rfl⟩
abbrev main_while0b_v119 : Ref sig .tc := ⟨.hbm, 137, rfl⟩
abbrev main_while0b_v120 : Ref sig .tc := ⟨.hbm, 138, rfl⟩
abbrev main_while0b_v121 : Ref sig .tc := ⟨.hbm, 139, rfl⟩
abbrev main_while0b_call2_cst : Ref sig .tc := ⟨.hbm, 140, rfl⟩
abbrev main_while0b_call2_v0 : Ref sig .tc := ⟨.hbm, 141, rfl⟩
abbrev main_while0b_call2_v1 : Ref sig .tc := ⟨.hbm, 142, rfl⟩
abbrev main_while0b_call2_v2 : Ref sig .tc := ⟨.hbm, 143, rfl⟩
abbrev main_while0b_call2_v3 : Ref sig .tc := ⟨.hbm, 144, rfl⟩
abbrev main_while0b_call2_v4 : Ref sig .tc := ⟨.hbm, 145, rfl⟩
abbrev main_while0b_call2_v5 : Ref sig .tc := ⟨.hbm, 146, rfl⟩
abbrev main_while0b_call2_v6 : Ref sig .tc := ⟨.hbm, 147, rfl⟩
abbrev main_while0b_call2_v7 : Ref sig .tc := ⟨.hbm, 148, rfl⟩
abbrev main_while0b_call2_v8 : Ref sig .tc := ⟨.hbm, 149, rfl⟩
abbrev main_while0b_call2_v9 : Ref sig .tc := ⟨.hbm, 150, rfl⟩
abbrev main_while0b_call2_v10 : Ref sig .tc := ⟨.hbm, 151, rfl⟩
abbrev main_while0b_call2_v11 : Ref sig .tc := ⟨.hbm, 152, rfl⟩
abbrev main_while0b_v122 : Ref sig .tc := ⟨.hbm, 153, rfl⟩
abbrev main_while0b_v123 : Ref sig .tc := ⟨.hbm, 154, rfl⟩
abbrev main_while0b_v124 : Ref sig .tc := ⟨.hbm, 155, rfl⟩
abbrev main_while0b_v125 : Ref sig .tc := ⟨.hbm, 156, rfl⟩
abbrev main_while0b_v126 : Ref sig .tc := ⟨.hbm, 157, rfl⟩
abbrev main_while0b_v127 : Ref sig .tc := ⟨.hbm, 158, rfl⟩
abbrev main_while0b_v128 : Ref sig .tc := ⟨.hbm, 159, rfl⟩
abbrev main_while0b_v129 : Ref sig .tc := ⟨.hbm, 160, rfl⟩
abbrev main_while0b_v130 : Ref sig .tc := ⟨.hbm, 161, rfl⟩
abbrev main_while0b_v131 : Ref sig .tc := ⟨.hbm, 162, rfl⟩
abbrev main_while0b_v132 : Ref sig .tc := ⟨.hbm, 163, rfl⟩
abbrev main_while0b_v133 : Ref sig .tc := ⟨.hbm, 164, rfl⟩
abbrev main_while0b_v134 : Ref sig .tc := ⟨.hbm, 165, rfl⟩
abbrev main_while0b_v135 : Ref sig .tc := ⟨.hbm, 166, rfl⟩
abbrev main_while0b_v136 : Ref sig .tc := ⟨.hbm, 167, rfl⟩
abbrev main_while0b_v137 : Ref sig .tc := ⟨.hbm, 168, rfl⟩
abbrev main_while0b_v138 : Ref sig .tc := ⟨.hbm, 169, rfl⟩
abbrev main_while0b_cst_32 : Ref sig .tc := ⟨.hbm, 170, rfl⟩
abbrev main_while0b_v139 : Ref sig .tc := ⟨.hbm, 171, rfl⟩
abbrev main_while0b_v140 : Ref sig .tc := ⟨.hbm, 172, rfl⟩
abbrev main_while0b_v141 : Ref sig .tc := ⟨.hbm, 173, rfl⟩
abbrev main_while0b_v142 : Ref sig .tc := ⟨.hbm, 174, rfl⟩
abbrev main_while0b_v143 : Ref sig .tc := ⟨.hbm, 175, rfl⟩
abbrev main_while0b_v144 : Ref sig .tc := ⟨.hbm, 176, rfl⟩
abbrev main_while0b_v145 : Ref sig .tc := ⟨.hbm, 177, rfl⟩
abbrev main_while0b_v146 : Ref sig .tc := ⟨.hbm, 178, rfl⟩
abbrev main_while0b_v147 : Ref sig .tc := ⟨.hbm, 179, rfl⟩
abbrev main_while0b_v148 : Ref sig .tc := ⟨.hbm, 180, rfl⟩
abbrev main_while0b_v149 : Ref sig .tc := ⟨.hbm, 181, rfl⟩
abbrev main_while0b_v150 : Ref sig .tc := ⟨.hbm, 182, rfl⟩
abbrev main_while0b_v151 : Ref sig .tc := ⟨.hbm, 183, rfl⟩
abbrev main_while0b_v152 : Ref sig .tc := ⟨.hbm, 184, rfl⟩
abbrev main_while0b_v153 : Ref sig .tc := ⟨.hbm, 185, rfl⟩
abbrev main_while0b_v154 : Ref sig .tc := ⟨.hbm, 186, rfl⟩
abbrev main_while0b_v155 : Ref sig .tc := ⟨.hbm, 187, rfl⟩
abbrev main_while0b_v156 : Ref sig .tc := ⟨.hbm, 188, rfl⟩
abbrev main_while0b_v157 : Ref sig .tc := ⟨.hbm, 189, rfl⟩
abbrev main_while0b_v158 : Ref sig .tc := ⟨.hbm, 190, rfl⟩
abbrev main_while0b_v159 : Ref sig .tc := ⟨.hbm, 191, rfl⟩
abbrev main_while0b_v160 : Ref sig .tc := ⟨.hbm, 192, rfl⟩
abbrev main_while0b_v161 : Ref sig .tc := ⟨.hbm, 193, rfl⟩
abbrev main_while0b_v162 : Ref sig .tc := ⟨.hbm, 194, rfl⟩
abbrev main_while0b_v163 : Ref sig .tc := ⟨.hbm, 195, rfl⟩
abbrev main_while0b_v164 : Ref sig .tc := ⟨.hbm, 196, rfl⟩
abbrev main_while0b_v165 : Ref sig .tc := ⟨.hbm, 197, rfl⟩
abbrev main_while0b_v166 : Ref sig .tc := ⟨.hbm, 198, rfl⟩
abbrev main_while0b_v167 : Ref sig .tc := ⟨.hbm, 199, rfl⟩
abbrev main_while0b_v168 : Ref sig .tc := ⟨.hbm, 200, rfl⟩
abbrev main_while0b_v169 : Ref sig .tc := ⟨.hbm, 201, rfl⟩
abbrev main_while0b_v170 : Ref sig .tc := ⟨.hbm, 202, rfl⟩
abbrev main_while0b_v171 : Ref sig .tc := ⟨.hbm, 203, rfl⟩
abbrev main_while0b_v172 : Ref sig .tc := ⟨.hbm, 204, rfl⟩
abbrev main_while0b_v173 : Ref sig .tc := ⟨.hbm, 205, rfl⟩
abbrev main_while0b_v174 : Ref sig .tc := ⟨.hbm, 206, rfl⟩
abbrev main_while0b_v175 : Ref sig .tc := ⟨.hbm, 207, rfl⟩
abbrev main_while0b_v176 : Ref sig .tc := ⟨.hbm, 208, rfl⟩
abbrev main_while0b_v177 : Ref sig .tc := ⟨.hbm, 209, rfl⟩
abbrev main_while0b_v178 : Ref sig .tc := ⟨.hbm, 210, rfl⟩
abbrev main_while0b_v179 : Ref sig .tc := ⟨.hbm, 211, rfl⟩
abbrev main_while0b_v180 : Ref sig .tc := ⟨.hbm, 212, rfl⟩
abbrev main_while0b_v181 : Ref sig .tc := ⟨.hbm, 213, rfl⟩
abbrev main_while0b_v182 : Ref sig .tc := ⟨.hbm, 214, rfl⟩
abbrev main_while0b_v183 : Ref sig .tc := ⟨.hbm, 215, rfl⟩
abbrev main_while0b_v184 : Ref sig .tc := ⟨.hbm, 216, rfl⟩
abbrev main_while0b_v185 : Ref sig .tc := ⟨.hbm, 217, rfl⟩
abbrev main_while0b_v186 : Ref sig .tc := ⟨.hbm, 218, rfl⟩
abbrev main_while0b_v187 : Ref sig .tc := ⟨.hbm, 219, rfl⟩
abbrev main_while0b_v188 : Ref sig .tc := ⟨.hbm, 220, rfl⟩
abbrev main_while0b_v189 : Ref sig .tc := ⟨.hbm, 221, rfl⟩
abbrev main_while0b_v190 : Ref sig .tc := ⟨.hbm, 222, rfl⟩
abbrev main_while0b_v191 : Ref sig .tc := ⟨.hbm, 223, rfl⟩
abbrev main_while0b_v192 : Ref sig .tc := ⟨.hbm, 224, rfl⟩
abbrev main_while0b_v193 : Ref sig .tc := ⟨.hbm, 225, rfl⟩
abbrev main_while0b_v194 : Ref sig .tc := ⟨.hbm, 226, rfl⟩
abbrev main_while0b_v195 : Ref sig .tc := ⟨.hbm, 227, rfl⟩
abbrev main_while0b_v196 : Ref sig .tc := ⟨.hbm, 228, rfl⟩
abbrev main_while0b_v197 : Ref sig .tc := ⟨.hbm, 229, rfl⟩
abbrev main_while0b_v198 : Ref sig .tc := ⟨.hbm, 230, rfl⟩
abbrev main_while0b_v199 : Ref sig .tc := ⟨.hbm, 231, rfl⟩
abbrev main_while0b_v200 : Ref sig .tc := ⟨.hbm, 232, rfl⟩
abbrev main_while0b_v201 : Ref sig .tc := ⟨.hbm, 233, rfl⟩
abbrev main_while0b_v202 : Ref sig .tc := ⟨.hbm, 234, rfl⟩
abbrev main_while0b_v203 : Ref sig .tc := ⟨.hbm, 235, rfl⟩
abbrev main_while0b_v204 : Ref sig .tc := ⟨.hbm, 236, rfl⟩
abbrev main_while0b_v205 : Ref sig .tc := ⟨.hbm, 237, rfl⟩
abbrev main_while0b_v206 : Ref sig .tc := ⟨.hbm, 238, rfl⟩
abbrev main_while0b_v207 : Ref sig .tc := ⟨.hbm, 239, rfl⟩
abbrev main_while0b_v208 : Ref sig .tc := ⟨.hbm, 240, rfl⟩
abbrev main_while0b_v209 : Ref sig .tc := ⟨.hbm, 241, rfl⟩
abbrev main_while0b_v210 : Ref sig .tc := ⟨.hbm, 242, rfl⟩
abbrev main_while0b_v211 : Ref sig .tc := ⟨.hbm, 243, rfl⟩
abbrev main_while0b_v212 : Ref sig .tc := ⟨.hbm, 244, rfl⟩
abbrev main_while0b_v213 : Ref sig .tc := ⟨.hbm, 245, rfl⟩
abbrev main_while0b_v214 : Ref sig .tc := ⟨.hbm, 246, rfl⟩
abbrev main_while0b_v215 : Ref sig .tc := ⟨.hbm, 247, rfl⟩
abbrev main_while0b_v216 : Ref sig .tc := ⟨.hbm, 248, rfl⟩
abbrev main_while0b_v217 : Ref sig .tc := ⟨.hbm, 249, rfl⟩
abbrev main_while0b_v218 : Ref sig .tc := ⟨.hbm, 250, rfl⟩
abbrev main_while0b_v219 : Ref sig .tc := ⟨.hbm, 251, rfl⟩
abbrev main_while0b_v220 : Ref sig .tc := ⟨.hbm, 252, rfl⟩
abbrev main_while0b_v221 : Ref sig .tc := ⟨.hbm, 253, rfl⟩
abbrev main_while0b_v222 : Ref sig .tc := ⟨.hbm, 254, rfl⟩
abbrev main_while0b_v223 : Ref sig .tc := ⟨.hbm, 255, rfl⟩
abbrev main_while0b_v224 : Ref sig .tc := ⟨.hbm, 256, rfl⟩
abbrev main_while0b_v225 : Ref sig .tc := ⟨.hbm, 257, rfl⟩
abbrev main_while0b_v226 : Ref sig .tc := ⟨.hbm, 258, rfl⟩
abbrev main_while0b_v227 : Ref sig .tc := ⟨.hbm, 259, rfl⟩
abbrev main_while0b_v228 : Ref sig .tc := ⟨.hbm, 260, rfl⟩
abbrev main_while0b_v229 : Ref sig .tc := ⟨.hbm, 261, rfl⟩
abbrev main_while0b_v230 : Ref sig .tc := ⟨.hbm, 262, rfl⟩
abbrev main_while0b_v231 : Ref sig .tc := ⟨.hbm, 263, rfl⟩
abbrev main_while0b_v232 : Ref sig .tc := ⟨.hbm, 264, rfl⟩
abbrev main_while0b_v233 : Ref sig .tc := ⟨.hbm, 265, rfl⟩
abbrev main_while0b_v234 : Ref sig .tc := ⟨.hbm, 266, rfl⟩
abbrev main_while0b_v235 : Ref sig .tc := ⟨.hbm, 267, rfl⟩
abbrev main_while0b_v236 : Ref sig .tc := ⟨.hbm, 268, rfl⟩
abbrev main_while0b_v237 : Ref sig .tc := ⟨.hbm, 269, rfl⟩
abbrev main_while0b_v238 : Ref sig .tc := ⟨.hbm, 270, rfl⟩
abbrev main_while0b_v239 : Ref sig .tc := ⟨.hbm, 271, rfl⟩
abbrev main_while0b_v240 : Ref sig .tc := ⟨.hbm, 272, rfl⟩
abbrev main_while0b_v241 : Ref sig .tc := ⟨.hbm, 273, rfl⟩
abbrev main_while0b_v242 : Ref sig .tc := ⟨.hbm, 274, rfl⟩
abbrev main_while0b_v243 : Ref sig .tc := ⟨.hbm, 275, rfl⟩
abbrev main_while0b_v244 : Ref sig .tc := ⟨.hbm, 276, rfl⟩
abbrev main_while0b_v245 : Ref sig .tc := ⟨.hbm, 277, rfl⟩
abbrev main_while0b_v246 : Ref sig .tc := ⟨.hbm, 278, rfl⟩
abbrev main_while0b_v247 : Ref sig .tc := ⟨.hbm, 279, rfl⟩
abbrev main_while0b_v248 : Ref sig .tc := ⟨.hbm, 280, rfl⟩
abbrev main_while0b_v249 : Ref sig .tc := ⟨.hbm, 281, rfl⟩
abbrev main_while0b_v250 : Ref sig .tc := ⟨.hbm, 282, rfl⟩
abbrev main_while0b_v251 : Ref sig .tc := ⟨.hbm, 283, rfl⟩
abbrev main_while0b_v252 : Ref sig .tc := ⟨.hbm, 284, rfl⟩
abbrev main_while0b_v253 : Ref sig .tc := ⟨.hbm, 285, rfl⟩
abbrev main_while0b_v254 : Ref sig .tc := ⟨.hbm, 286, rfl⟩
abbrev main_while0b_v255 : Ref sig .tc := ⟨.hbm, 287, rfl⟩
abbrev main_while0b_v256 : Ref sig .tc := ⟨.hbm, 288, rfl⟩
abbrev main_while0b_v257 : Ref sig .tc := ⟨.hbm, 289, rfl⟩
abbrev main_while0b_v258 : Ref sig .tc := ⟨.hbm, 290, rfl⟩
abbrev main_while0b_v259 : Ref sig .tc := ⟨.hbm, 291, rfl⟩
abbrev main_while0b_v260 : Ref sig .tc := ⟨.hbm, 292, rfl⟩
abbrev main_while0b_v261 : Ref sig .tc := ⟨.hbm, 293, rfl⟩
abbrev main_while0b_v262 : Ref sig .tc := ⟨.hbm, 294, rfl⟩
abbrev main_while0b_v263 : Ref sig .tc := ⟨.hbm, 295, rfl⟩
abbrev main_while0b_v264 : Ref sig .tc := ⟨.hbm, 296, rfl⟩
abbrev main_while0b_v265 : Ref sig .tc := ⟨.hbm, 297, rfl⟩
abbrev main_while0b_v266 : Ref sig .tc := ⟨.hbm, 298, rfl⟩
abbrev main_while0b_v267 : Ref sig .tc := ⟨.hbm, 299, rfl⟩
abbrev main_while0b_v268 : Ref sig .tc := ⟨.hbm, 300, rfl⟩
abbrev main_while0b_v269 : Ref sig .tc := ⟨.hbm, 301, rfl⟩
abbrev main_while0b_v270 : Ref sig .tc := ⟨.hbm, 302, rfl⟩
abbrev main_while0b_v271 : Ref sig .tc := ⟨.hbm, 303, rfl⟩
abbrev main_while0b_v272 : Ref sig .tc := ⟨.hbm, 304, rfl⟩
abbrev main_while0b_v273 : Ref sig .tc := ⟨.hbm, 305, rfl⟩
abbrev main_while0b_v274 : Ref sig .tc := ⟨.hbm, 306, rfl⟩
abbrev main_while0b_v275 : Ref sig .tc := ⟨.hbm, 307, rfl⟩
abbrev main_while0b_v276 : Ref sig .tc := ⟨.hbm, 308, rfl⟩
abbrev main_while0b_v277 : Ref sig .tc := ⟨.hbm, 309, rfl⟩
abbrev main_while0b_cst_33 : Ref sig .tc := ⟨.hbm, 310, rfl⟩
abbrev main_while0b_v278 : Ref sig .tc := ⟨.hbm, 311, rfl⟩
abbrev main_while0b_v279 : Ref sig .tc := ⟨.hbm, 312, rfl⟩
abbrev main_while0b_cst_34 : Ref sig .tc := ⟨.hbm, 313, rfl⟩
abbrev main_while0b_v280 : Ref sig .tc := ⟨.hbm, 314, rfl⟩
abbrev main_while0b_v281 : Ref sig .tc := ⟨.hbm, 315, rfl⟩
abbrev main_while0b_v282 : Ref sig .tc := ⟨.hbm, 316, rfl⟩
abbrev main_while0b_v283 : Ref sig .tc := ⟨.hbm, 317, rfl⟩
abbrev main_while0b_v284 : Ref sig .tc := ⟨.hbm, 318, rfl⟩
abbrev main_while0b_v285 : Ref sig .tc := ⟨.hbm, 319, rfl⟩
abbrev main_while0b_c_35 : Ref sig .tc := ⟨.hbm, 320, rfl⟩
abbrev main_while0b_call3_v0 : Ref sig .tc := ⟨.hbm, 321, rfl⟩
abbrev main_while0b_v286 : Ref sig .tc := ⟨.hbm, 322, rfl⟩
abbrev main_while0b_v287 : Ref sig .tc := ⟨.hbm, 323, rfl⟩
abbrev main_while0b_v288 : Ref sig .tc := ⟨.hbm, 324, rfl⟩
abbrev main_while0b_v289 : Ref sig .tc := ⟨.hbm, 325, rfl⟩
abbrev main_while0b_v290 : Ref sig .tc := ⟨.hbm, 326, rfl⟩
abbrev main_while0b_v291 : Ref sig .tc := ⟨.hbm, 327, rfl⟩
abbrev main_while0b_cst_36 : Ref sig .tc := ⟨.hbm, 328, rfl⟩
abbrev main_while0b_v292 : Ref sig .tc := ⟨.hbm, 329, rfl⟩
abbrev main_while0b_v293 : Ref sig .tc := ⟨.hbm, 330, rfl⟩
abbrev main_while0b_v294 : Ref sig .tc := ⟨.hbm, 331, rfl⟩
abbrev main_while0b_v295 : Ref sig .tc := ⟨.hbm, 332, rfl⟩
abbrev main_while0b_v296 : Ref sig .tc := ⟨.hbm, 333, rfl⟩
abbrev main_while0b_v297 : Ref sig .tc := ⟨.hbm, 334, rfl⟩
abbrev main_while0b_v298 : Ref sig .tc := ⟨.hbm, 335, rfl⟩
abbrev main_while0b_v299 : Ref sig .tc := ⟨.hbm, 336, rfl⟩
abbrev main_while0b_v300 : Ref sig .tc := ⟨.hbm, 337, rfl⟩
abbrev main_while0b_v301 : Ref sig .tc := ⟨.hbm, 338, rfl⟩
abbrev main_while0b_v302 : Ref sig .tc := ⟨.hbm, 339, rfl⟩
abbrev main_while0b_v303 : Ref sig .tc := ⟨.hbm, 340, rfl⟩
abbrev main_while0b_v304 : Ref sig .tc := ⟨.hbm, 341, rfl⟩
abbrev main_while0b_v305 : Ref sig .tc := ⟨.hbm, 342, rfl⟩
abbrev main_while0b_v306 : Ref sig .tc := ⟨.hbm, 343, rfl⟩
abbrev main_while0b_v307 : Ref sig .tc := ⟨.hbm, 344, rfl⟩
abbrev main_while0b_v308 : Ref sig .tc := ⟨.hbm, 345, rfl⟩
abbrev main_while0b_cst_37 : Ref sig .tc := ⟨.hbm, 346, rfl⟩
abbrev main_while0b_v309 : Ref sig .tc := ⟨.hbm, 347, rfl⟩
abbrev main_while0b_v310 : Ref sig .tc := ⟨.hbm, 348, rfl⟩
abbrev main_while0b_v311 : Ref sig .tc := ⟨.hbm, 349, rfl⟩
abbrev main_while0b_c_38 : Ref sig .tc := ⟨.hbm, 350, rfl⟩
abbrev main_while0b_v312 : Ref sig .tc := ⟨.hbm, 351, rfl⟩
abbrev main_cst : Ref sig .tc := ⟨.hbm, 352, rfl⟩
abbrev main_v2 : Ref sig .tc := ⟨.hbm, 353, rfl⟩
abbrev main_v3 : Ref sig .tc := ⟨.hbm, 354, rfl⟩
abbrev main_cst_1 : Ref sig .tc := ⟨.hbm, 355, rfl⟩
abbrev main_v4 : Ref sig .tc := ⟨.hbm, 356, rfl⟩
abbrev main_v5 : Ref sig .tc := ⟨.hbm, 357, rfl⟩
abbrev main_v6 : Ref sig .tc := ⟨.hbm, 358, rfl⟩
abbrev main_v7 : Ref sig .tc := ⟨.hbm, 359, rfl⟩
abbrev main_v8 : Ref sig .tc := ⟨.hbm, 360, rfl⟩
abbrev main_cst_2 : Ref sig .tc := ⟨.hbm, 361, rfl⟩
abbrev main_v9 : Ref sig .tc := ⟨.hbm, 362, rfl⟩
abbrev main_v10 : Ref sig .tc := ⟨.hbm, 363, rfl⟩
abbrev main_cst_3 : Ref sig .tc := ⟨.hbm, 364, rfl⟩
abbrev main_v11 : Ref sig .tc := ⟨.hbm, 365, rfl⟩
abbrev main_v12 : Ref sig .tc := ⟨.hbm, 366, rfl⟩
abbrev main_v13 : Ref sig .tc := ⟨.hbm, 367, rfl⟩
abbrev main_v14 : Ref sig .tc := ⟨.hbm, 368, rfl⟩
abbrev main_cst_4 : Ref sig .tc := ⟨.hbm, 369, rfl⟩
abbrev main_v15 : Ref sig .tc := ⟨.hbm, 370, rfl⟩
abbrev main_v16 : Ref sig .tc := ⟨.hbm, 371, rfl⟩
abbrev main_v17 : Ref sig .tc := ⟨.hbm, 372, rfl⟩
abbrev main_v18 : Ref sig .tc := ⟨.hbm, 373, rfl⟩
abbrev main_v19 : Ref sig .tc := ⟨.hbm, 374, rfl⟩
abbrev main_v20 : Ref sig .tc := ⟨.hbm, 375, rfl⟩
abbrev main_v21 : Ref sig .tc := ⟨.hbm, 376, rfl⟩
abbrev main_v22 : Ref sig .tc := ⟨.hbm, 377, rfl⟩
abbrev main_v23 : Ref sig .tc := ⟨.hbm, 378, rfl⟩
abbrev main_v24 : Ref sig .tc := ⟨.hbm, 379, rfl⟩
abbrev main_v25 : Ref sig .tc := ⟨.hbm, 380, rfl⟩
abbrev main_cst_5 : Ref sig .tc := ⟨.hbm, 381, rfl⟩
abbrev main_v26 : Ref sig .tc := ⟨.hbm, 382, rfl⟩
abbrev main_cst_6 : Ref sig .tc := ⟨.hbm, 383, rfl⟩
abbrev main_v27 : Ref sig .tc := ⟨.hbm, 384, rfl⟩
abbrev main_v28 : Ref sig .tc := ⟨.hbm, 385, rfl⟩
abbrev main_v29 : Ref sig .tc := ⟨.hbm, 386, rfl⟩
abbrev main_v30 : Ref sig .tc := ⟨.hbm, 387, rfl⟩
abbrev main_v31 : Ref sig .tc := ⟨.hbm, 388, rfl⟩
abbrev main_v32 : Ref sig .tc := ⟨.hbm, 389, rfl⟩

abbrev nD : Nat := 1
abbrev τ : Topo := Topo.v7x

variable {F : FTy → Type} [FloatOps F]

abbrev main_while0_count : Scf.Loop 32 := ⟨0#32, 4#32, 1#32⟩
-- ==== Proof.Scan.lean ====
/- The kernel's time recurrence: one loop over the 32 time steps, carrying the state and storing one row of results a step.
   Here the loop is read once, for all four layers: what it leaves in the buffer of results, as a function of what the four
   buffers that it reads hold. -/
module

public import proofs.«01_k».proof.Proof.Gen.KernelIdeal.Skeleton
public import Idealize.ShloMosaic.Lib.Exec
public import Idealize.ShloMosaic.Lib.Tactic
public import Idealize.ShloMosaic.Lib.Pipeline.Kit
public import Idealize.ShloMosaic.Lib.Writes
public import Idealize.ShloMosaic.Lib.WritesUnit
public import Idealize.ShloMosaic.Lib.WholeRead

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The loop runs 32 trips. -/
theorem trips_eq : k0_t1_loop.trips = 32 := by decide +kernel

/-- Trip `k`'s row of a (32, 8, 2048) buffer, as the loop's region addresses it. -/
abbrev rowRect (k : Fin k0_t1_loop.trips) : Rect S32x8x2048 :=
  Rect.unit (s := S32x8x2048) (k0_off1 k) S1x8x2048.size (k0_off1_inb k)

/-- Trip `k`'s row of a (32, 8, 16) buffer. -/
abbrev rowRect16 (k : Fin k0_t1_loop.trips) : Rect S32x8x16 :=
  Rect.unit (s := S32x8x16) (k0_off2 k) S1x8x16.size (k0_off2_inb k)

/-- The scan's region over the five buffers alone. -/
def scanBody (arg24 : Memref sig .tc .vmem S32x8x2048 .f32) (arg25 : Memref sig .tc .vmem S32x8x2048 .f32)
    (arg26 : Memref sig .tc .vmem S32x8x16 .f32) (arg27 : Memref sig .tc .vmem S32x8x16 .f32)
    (arg28 : Memref sig .tc .vmem S32x8x2048 .f32) (v5 : FVec F S1x16x2048 .f32) :
    Fin k0_t1_loop.trips → FVec F S8x16x2048 .f32 → Prog (TpuEff nD τ sig (Elt F) Λ₀ .tc) (FVec F S8x16x2048 .f32) :=
  fun k h => do
    let d : Vec F S1x8x2048 .f32 ← Prog.lift (.load arg24 (rowRect k).toLoadRect (View.loadsAt_vmem h_S1x8x2048))
    let u : Vec F S1x8x2048 .f32 ← Prog.lift (.load arg25 (rowRect k).toLoadRect (View.loadsAt_vmem h_S1x8x2048))
    let b : Vec F S1x8x16 .f32 ← Prog.lift (.load arg26 (rowRect16 k).toLoadRect (View.loadsAt_vmem h_S1x8x16))
    let cc : Vec F S1x8x16 .f32 ← Prog.lift (.load arg27 (rowRect16 k).toLoadRect (View.loadsAt_vmem h_S1x8x16))
    let _y : Vec F S1x8x2048 .f32 ← Prog.lift (.load arg28 (rowRect k).toLoadRect (View.loadsAt_vmem h_S1x8x2048))
    Prog.lift (.store arg28 (rowRect k) (k0_pay25 v5 h d u b cc) Finset.univ (View.stores_vmem_bits_univ h_S1x8x2048 rfl) (.inl rfl))
    pure (k0_pay24 v5 h d u b)

/-- The state carried into trip `k`, from the rows the trips load. -/
def carry (v5 : FVec F S1x16x2048 .f32) (d u : Fin k0_t1_loop.trips → Vec F S1x8x2048 .f32)
    (b : Fin k0_t1_loop.trips → Vec F S1x8x16 .f32) (init : FVec F S8x16x2048 .f32) : ℕ → FVec F S8x16x2048 .f32
  | 0 => init
  | k + 1 => if h : k < k0_t1_loop.trips then
      k0_pay24 v5 (carry v5 d u b init k) (d ⟨k, h⟩) (u ⟨k, h⟩) (b ⟨k, h⟩) else carry v5 d u b init k

/-- The row that trip `k` stores. -/
def outRow (v5 : FVec F S1x16x2048 .f32) (d u : Fin k0_t1_loop.trips → Vec F S1x8x2048 .f32)
    (b cc : Fin k0_t1_loop.trips → Vec F S1x8x16 .f32) (init : FVec F S8x16x2048 .f32) (k : Fin k0_t1_loop.trips) :
    FVec F S1x8x2048 .f32 :=
  k0_pay25 v5 (carry v5 d u b init k.val) (d k) (u k) (b k) (cc k)

/-- The writes of the trips before `k`, the last one first. -/
def rowsWritten (v5 : FVec F S1x16x2048 .f32) (d u : Fin k0_t1_loop.trips → Vec F S1x8x2048 .f32)
    (b cc : Fin k0_t1_loop.trips → Vec F S1x8x16 .f32) (init : FVec F S8x16x2048 .f32) :
    ℕ → List (View.Piece (Elt F) S32x8x2048 .f32)
  | 0 => []
  | k + 1 => if h : k < k0_t1_loop.trips then
      ⟨rowRect ⟨k, h⟩, outRow v5 d u b cc init ⟨k, h⟩⟩ :: rowsWritten v5 d u b cc init k
      else rowsWritten v5 d u b cc init k

/-- The buffer of results after the loop: at time `t` the row that trip `t` stored. -/
def scanOut (v5 : FVec F S1x16x2048 .f32) (d u : Fin k0_t1_loop.trips → Vec F S1x8x2048 .f32)
    (b cc : Fin k0_t1_loop.trips → Vec F S1x8x16 .f32) (init : FVec F S8x16x2048 .f32) : FVec F S32x8x2048 .f32 :=
  fun j => outRow v5 d u b cc init (Fin.cast trips_eq.symm (j 0)) (fun a => match a with
    | ⟨0, _⟩ => (0 : Fin 1)
    | ⟨1, _⟩ => (j 1 : Fin 8)
    | ⟨2, _⟩ => (j 2 : Fin 2048))

/-- The writes of the trips before `k` hold, at every time before `k`, that time's row. -/
theorem read_rowsWritten (m : Memref sig .tc .vmem S32x8x2048 .f32) (f : BufTy.Contents (Elt F) m.view.ty)
    (v5 : FVec F S1x16x2048 .f32) (d u : Fin k0_t1_loop.trips → Vec F S1x8x2048 .f32)
    (b cc : Fin k0_t1_loop.trips → Vec F S1x8x16 .f32) (init : FVec F S8x16x2048 .f32) (k : ℕ) (hk : k ≤ k0_t1_loop.trips)
    (j : S32x8x2048.Idx) (hj : (j 0).val < k) :
    m.view.read (Elt F) (m.view.writes (Elt F) f (rowsWritten v5 d u b cc init k)) j = scanOut v5 d u b cc init j := by
  induction k with
  | zero => exact absurd hj (Nat.not_lt_zero _)
  | succ k ih =>
    have h : k < k0_t1_loop.trips := hk
    have e : rowsWritten v5 d u b cc init (k + 1)
        = ⟨rowRect ⟨k, h⟩, outRow v5 d u b cc init ⟨k, h⟩⟩ :: rowsWritten v5 d u b cc init k := by
      rw [rowsWritten, dif_pos h]
    rw [e]
    by_cases hjk : (j 0).val = k
    · have ej : Fin.cast trips_eq.symm (j 0) = (⟨k, h⟩ : Fin k0_t1_loop.trips) := Fin.ext hjk
      rw [scanOut, ej]
      refine View.read_writes_cons_unit_of_mem m.view f (k0_off1_inb ⟨k, h⟩) _ _ j _ (k0_off1_eq ⟨k, h⟩) fun a => ?_
      match a with
      | ⟨0, _⟩ => exact hjk
      | ⟨1, _⟩ => exact (Nat.zero_add _).symm
      | ⟨2, _⟩ => exact (Nat.zero_add _).symm
    · rw [View.read_writes_cons_unit_of_not_mem m.view f (k0_off1_inb ⟨k, h⟩) _ _ j (k0_off1_eq ⟨k, h⟩) 0
        (Or.inl (show (j 0).val < k by omega))]
      exact ih (by omega) (by omega)

/-- `scanOut` of what the four buffers hold: the loop over whole values. -/
def scan (v5 : FVec F S1x16x2048 .f32) (d u : FVec F S32x8x2048 .f32) (b cc : FVec F S32x8x16 .f32)
    (init : FVec F S8x16x2048 .f32) : FVec F S32x8x2048 .f32 :=
  scanOut v5 (fun k j => d ((rowRect k).toLoadRect.idx j)) (fun k j => u ((rowRect k).toLoadRect.idx j))
    (fun k j => b ((rowRect16 k).toLoadRect.idx j)) (fun k j => cc ((rowRect16 k).toLoadRect.idx j)) init

/-- The five buffers, the four read ones at their contents. -/
abbrev scanHeld (c : Dev nD) (arg24 : Memref sig .tc .vmem S32x8x2048 .f32) (arg25 : Memref sig .tc .vmem S32x8x2048 .f32)
    (arg26 : Memref sig .tc .vmem S32x8x16 .f32) (arg27 : Memref sig .tc .vmem S32x8x16 .f32)
    (arg28 : Memref sig .tc .vmem S32x8x2048 .f32)
    (X24 : BufTy.Contents (Elt F) arg24.view.ty) (X25 : BufTy.Contents (Elt F) arg25.view.ty)
    (X26 : BufTy.Contents (Elt F) arg26.view.ty) (X27 : BufTy.Contents (Elt F) arg27.view.ty)
    (f : BufTy.Contents (Elt F) arg28.view.ty) : sProp 𝕄 :=
  iprop((arg24.view.loc (c : Thread nD τ) ↦[arg24.view.set]{fullShare} X24)
    ∗ (arg25.view.loc (c : Thread nD τ) ↦[arg25.view.set]{fullShare} X25)
    ∗ (arg26.view.loc (c : Thread nD τ) ↦[arg26.view.set]{fullShare} X26)
    ∗ (arg27.view.loc (c : Thread nD τ) ↦[arg27.view.set]{fullShare} X27)
    ∗ (arg28.view.loc (c : Thread nD τ) ↦[arg28.view.set]{fullShare} f))

/-- One trip: the new state, and the trip's row stored. -/
theorem scanTrip (c : Dev nD) (E : Set ℕ) (arg24 : Memref sig .tc .vmem S32x8x2048 .f32) (arg25 : Memref sig .tc .vmem S32x8x2048 .f32)
    (arg26 : Memref sig .tc .vmem S32x8x16 .f32) (arg27 : Memref sig .tc .vmem S32x8x16 .f32)
    (arg28 : Memref sig .tc .vmem S32x8x2048 .f32) (v5 : FVec F S1x16x2048 .f32)
    (X24 : BufTy.Contents (Elt F) arg24.view.ty) (X25 : BufTy.Contents (Elt F) arg25.view.ty)
    (X26 : BufTy.Contents (Elt F) arg26.view.ty) (X27 : BufTy.Contents (Elt F) arg27.view.ty)
    (f : BufTy.Contents (Elt F) arg28.view.ty) (k : Fin k0_t1_loop.trips) (h : FVec F S8x16x2048 .f32) :
    scanHeld c arg24 arg25 arg26 arg27 arg28 X24 X25 X26 X27 f
      ⊢ wp frame (wpE (defs₀ (F := F)) Variants.none (c : Thread nD τ) none) E (scanBody arg24 arg25 arg26 arg27 arg28 v5 k h)
        (fun yld => iprop(⌜yld = k0_pay24 v5 h (arg24.view.readAt (Elt F) (rowRect k).toLoadRect X24)
            (arg25.view.readAt (Elt F) (rowRect k).toLoadRect X25) (arg26.view.readAt (Elt F) (rowRect16 k).toLoadRect X26)⌝
          ∗ scanHeld c arg24 arg25 arg26 arg27 arg28 X24 X25 X26 X27 (arg28.view.writes (Elt F) f
              [⟨rowRect k, k0_pay25 v5 h (arg24.view.readAt (Elt F) (rowRect k).toLoadRect X24)
                (arg25.view.readAt (Elt F) (rowRect k).toLoadRect X25) (arg26.view.readAt (Elt F) (rowRect16 k).toLoadRect X26)
                (arg27.view.readAt (Elt F) (rowRect16 k).toLoadRect X27)⟩]))) := by
  have hk : k.val < 32 := Nat.lt_of_lt_of_le k.isLt k0_t1_abs.2.1
  unfold scanBody
  iintro ⟨H24, H25, H26, H27, H28⟩
  sl_exec
  sl_step
  sl_close

/-- What the loop holds before trip `k`, carrying `h`. -/
abbrev scanHolds (c : Dev nD) (arg24 : Memref sig .tc .vmem S32x8x2048 .f32) (arg25 : Memref sig .tc .vmem S32x8x2048 .f32)
    (arg26 : Memref sig .tc .vmem S32x8x16 .f32) (arg27 : Memref sig .tc .vmem S32x8x16 .f32)
    (arg28 : Memref sig .tc .vmem S32x8x2048 .f32) (v5 : FVec F S1x16x2048 .f32)
    (X24 : BufTy.Contents (Elt F) arg24.view.ty) (X25 : BufTy.Contents (Elt F) arg25.view.ty)
    (X26 : BufTy.Contents (Elt F) arg26.view.ty) (X27 : BufTy.Contents (Elt F) arg27.view.ty)
    (G28 : BufTy.Contents (Elt F) arg28.view.ty) (init : FVec F S8x16x2048 .f32) (k : ℕ) (h : FVec F S8x16x2048 .f32) : sProp 𝕄 :=
  iprop((arg24.view.loc (c : Thread nD τ) ↦[arg24.view.set]{fullShare} X24)
    ∗ (arg25.view.loc (c : Thread nD τ) ↦[arg25.view.set]{fullShare} X25)
    ∗ (arg26.view.loc (c : Thread nD τ) ↦[arg26.view.set]{fullShare} X26)
    ∗ (arg27.view.loc (c : Thread nD τ) ↦[arg27.view.set]{fullShare} X27)
    ∗ (∃ f, (arg28.view.loc (c : Thread nD τ) ↦[arg28.view.set]{fullShare} f)
      ∗ ⌜f = arg28.view.writes (Elt F) G28 (rowsWritten v5 (fun k => arg24.view.readAt (Elt F) (rowRect k).toLoadRect X24)
          (fun k => arg25.view.readAt (Elt F) (rowRect k).toLoadRect X25) (fun k => arg26.view.readAt (Elt F) (rowRect16 k).toLoadRect X26)
          (fun k => arg27.view.readAt (Elt F) (rowRect16 k).toLoadRect X27) init k)⌝)
    ∗ ⌜h = carry v5 (fun k => arg24.view.readAt (Elt F) (rowRect k).toLoadRect X24)
          (fun k => arg25.view.readAt (Elt F) (rowRect k).toLoadRect X25) (fun k => arg26.view.readAt (Elt F) (rowRect16 k).toLoadRect X26)
          init k⌝)

set_option warn.classDefReducibility false in
/-- The loop by its invariant: before trip `k` the buffer of results holds the rows of the trips before it. -/
def scanInv (c : Dev nD) (E : Set ℕ) (arg24 : Memref sig .tc .vmem S32x8x2048 .f32) (arg25 : Memref sig .tc .vmem S32x8x2048 .f32)
    (arg26 : Memref sig .tc .vmem S32x8x16 .f32) (arg27 : Memref sig .tc .vmem S32x8x16 .f32)
    (arg28 : Memref sig .tc .vmem S32x8x2048 .f32) (v5 : FVec F S1x16x2048 .f32)
    (X24 : BufTy.Contents (Elt F) arg24.view.ty) (X25 : BufTy.Contents (Elt F) arg25.view.ty)
    (X26 : BufTy.Contents (Elt F) arg26.view.ty) (X27 : BufTy.Contents (Elt F) arg27.view.ty)
    (G28 : BufTy.Contents (Elt F) arg28.view.ty) (init : FVec F S8x16x2048 .f32) :
    LoopInv (M := 𝕄) Idealize.ShloMosaic.frame (wpE (defs₀ (F := F)) Variants.none (c : Thread nD τ) none) E
      k0_t1_loop.lb k0_t1_loop.ub k0_t1_loop.st k0_t1_ok init (scanBody arg24 arg25 arg26 arg27 arg28 v5) where
  inv := scanHolds c arg24 arg25 arg26 arg27 arg28 v5 X24 X25 X26 X27 G28 init
  step k h := by
    iintro ⟨H24, H25, H26, H27, ⟨%f, H28, %hf⟩, %hh⟩
    subst hh
    iapply (wp_wand_r Idealize.ShloMosaic.frame (wpE (defs₀ (F := F)) Variants.none (c : Thread nD τ) none) E)
    isplitl [H24 H25 H26 H27 H28]
    · iapply (scanTrip c E arg24 arg25 arg26 arg27 arg28 v5 X24 X25 X26 X27 f k _)
      isplitl [H24]; · iexact H24
      isplitl [H25]; · iexact H25
      isplitl [H26]; · iexact H26
      isplitl [H27]; · iexact H27
      iexact H28
    · iintro %yld ⟨%hy, H24, H25, H26, H27, H28⟩
      isplitl [H24]; · iexact H24
      isplitl [H25]; · iexact H25
      isplitl [H26]; · iexact H26
      isplitl [H27]; · iexact H27
      isplitl [H28]
      · iexists _
        isplitl [H28]; · iexact H28
        ipureintro
        rw [hf, rowsWritten, dif_pos k.isLt, ← View.writes_append]
        rfl
      · ipureintro
        rw [hy, carry, dif_pos k.isLt]

/-- After the loop the buffer of results holds `scan` of the others, whatever it held before. -/
@[instance_reducible] def scanExit (c : Dev nD) (E : Set ℕ) (arg24 : Memref sig .tc .vmem S32x8x2048 .f32) (arg25 : Memref sig .tc .vmem S32x8x2048 .f32)
    (arg26 : Memref sig .tc .vmem S32x8x16 .f32) (arg27 : Memref sig .tc .vmem S32x8x16 .f32)
    (arg28 : Memref sig .tc .vmem S32x8x2048 .f32) (harg28 : arg28.IsWhole) (v5 : FVec F S1x16x2048 .f32)
    (X24 : BufTy.Contents (Elt F) arg24.view.ty) (X25 : BufTy.Contents (Elt F) arg25.view.ty)
    (X26 : BufTy.Contents (Elt F) arg26.view.ty) (X27 : BufTy.Contents (Elt F) arg27.view.ty)
    (G28 : BufTy.Contents (Elt F) arg28.view.ty) (init : FVec F S8x16x2048 .f32) :
    LoopExit (scanInv (F := F) c E arg24 arg25 arg26 arg27 arg28 v5 X24 X25 X26 X27 G28 init) where
  post _ := scanHeld c arg24 arg25 arg26 arg27 arg28 X24 X25 X26 X27 (harg28.unread (scan v5
      (arg24.view.read (Elt F) X24) (arg25.view.read (Elt F) X25) (arg26.view.read (Elt F) X26)
      (arg27.view.read (Elt F) X27) init))
  exit h := by
    change scanHolds c arg24 arg25 arg26 arg27 arg28 v5 X24 X25 X26 X27 G28 init k0_t1_loop.trips h ⊢ _
    iintro ⟨H24, H25, H26, H27, ⟨%f, H28, %hf⟩, -⟩
    have hr : arg28.view.read (Elt F) f = scan v5 (arg24.view.read (Elt F) X24) (arg25.view.read (Elt F) X25)
        (arg26.view.read (Elt F) X26) (arg27.view.read (Elt F) X27) init := by
      rw [hf]
      exact funext fun j => read_rowsWritten arg28 G28 v5 _ _ _ _ init _ le_rfl j
        (lt_of_lt_of_eq (j 0).isLt trips_eq.symm)
    obtain rfl := harg28.eq_unread hr
    isplitl [H24]; · iexact H24
    isplitl [H25]; · iexact H25
    isplitl [H26]; · iexact H26
    isplitl [H27]; · iexact H27
    iexact H28

set_option warn.classDefReducibility false in
/-- The scan of layer 1 goes by the scan's invariant: its region is the scan's. -/
@[sl_loop] def scanInv1 (c : Dev nD) (E : Set ℕ) (i : grid0.Coords) (arg1 : Memref sig .tc .vmem S8x32768 .f32) (harg1 : arg1.IsWhole) (arg2 : Memref sig .tc .vmem S64x32 .f32) (harg2 : arg2.IsWhole) (arg3 : Memref sig .tc .vmem S1x32 .f32) (harg3 : arg3.IsWhole) (arg4 : Memref sig .tc .vmem S32x32 .f32) (harg4 : arg4.IsWhole) (arg5 : Memref sig .tc .vmem S32x32 .f32) (harg5 : arg5.IsWhole) (arg6 : Memref sig .tc .vmem S32x32 .f32) (harg6 : arg6.IsWhole) (arg7 : Memref sig .tc .vmem S32x1 .f32) (harg7 : arg7.IsWhole) (arg8 : Memref sig .tc .vmem S1024x4096 .bf16) (harg8 : arg8.IsWhole) (arg9 : Memref sig .tc .vmem S4x2048 .f32) (harg9 : arg9.IsWhole) (arg10 : Memref sig .tc .vmem S1x2048 .f32) (harg10 : arg10.IsWhole) (arg11 : Memref sig .tc .vmem S2048x64 .f32) (harg11 : arg11.IsWhole) (arg12 : Memref sig .tc .vmem S2048x16 .f32) (harg12 : arg12.IsWhole) (arg13 : Memref sig .tc .vmem S2048x16 .f32) (harg13 : arg13.IsWhole) (arg14 : Memref sig .tc .vmem S64x2048 .f32) (harg14 : arg14.IsWhole) (arg15 : Memref sig .tc .vmem S1x2048 .f32) (harg15 : arg15.IsWhole) (arg16 : Memref sig .tc .vmem S16x2048 .f32) (harg16 : arg16.IsWhole) (arg17 : Memref sig .tc .vmem S1x2048 .f32) (harg17 : arg17.IsWhole) (arg18 : Memref sig .tc .vmem S2048x1024 .bf16) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1024x128 .f32) (harg21 : arg21.IsWhole) (arg22 : Memref sig .tc .vmem S1x128 .f32) (harg22 : arg22.IsWhole) (arg23 : Memref sig .tc .vmem S8x128 .f32) (harg23 : arg23.IsWhole) (arg24 : Memref sig .tc .vmem S32x8x2048 .f32) (harg24 : arg24.IsWhole) (arg25 : Memref sig .tc .vmem S32x8x2048 .f32) (harg25 : arg25.IsWhole) (arg26 : Memref sig .tc .vmem S32x8x16 .f32) (harg26 : arg26.IsWhole) (arg27 : Memref sig .tc .vmem S32x8x16 .f32) (harg27 : arg27.IsWhole) (arg28 : Memref sig .tc .vmem S32x8x2048 .f32) (harg28 : arg28.IsWhole) (v5 : FVec F S1x16x2048 .f32) (v11 : FVec F S1x1x2048 .f32) (v54 : FVec F S32x8x1024 .f32) (v63 : FVec F S32x8x2048 .f32) (v97 : FVec F S32x8x2048 .f32) (v98 : FVec F S256x2048 .f32) (v118 : FVec F S32x8x2048 .f32) (X24 : BufTy.Contents (Elt F) arg24.view.ty) (X25 : BufTy.Contents (Elt F) arg25.view.ty) (X26 : BufTy.Contents (Elt F) arg26.view.ty) (X27 : BufTy.Contents (Elt F) arg27.view.ty) (G28 : BufTy.Contents (Elt F) arg28.view.ty) (init : FVec F S8x16x2048 .f32) :
    LoopInv (M := 𝕄) Idealize.ShloMosaic.frame (wpE (defs₀ (F := F)) Variants.none (c : Thread nD τ) none) E
      k0_t1_loop.lb k0_t1_loop.ub k0_t1_loop.st k0_t1_ok init (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v5 v11 v54 v63 v97 v98 v118) :=
  scanInv c E arg24 arg25 arg26 arg27 arg28 v5 X24 X25 X26 X27 G28 init

/-- After the scan of layer 1 the buffer of results holds `scan` of the four others. -/
instance scanExit1 (c : Dev nD) (E : Set ℕ) (i : grid0.Coords) (arg1 : Memref sig .tc .vmem S8x32768 .f32) (harg1 : arg1.IsWhole) (arg2 : Memref sig .tc .vmem S64x32 .f32) (harg2 : arg2.IsWhole) (arg3 : Memref sig .tc .vmem S1x32 .f32) (harg3 : arg3.IsWhole) (arg4 : Memref sig .tc .vmem S32x32 .f32) (harg4 : arg4.IsWhole) (arg5 : Memref sig .tc .vmem S32x32 .f32) (harg5 : arg5.IsWhole) (arg6 : Memref sig .tc .vmem S32x32 .f32) (harg6 : arg6.IsWhole) (arg7 : Memref sig .tc .vmem S32x1 .f32) (harg7 : arg7.IsWhole) (arg8 : Memref sig .tc .vmem S1024x4096 .bf16) (harg8 : arg8.IsWhole) (arg9 : Memref sig .tc .vmem S4x2048 .f32) (harg9 : arg9.IsWhole) (arg10 : Memref sig .tc .vmem S1x2048 .f32) (harg10 : arg10.IsWhole) (arg11 : Memref sig .tc .vmem S2048x64 .f32) (harg11 : arg11.IsWhole) (arg12 : Memref sig .tc .vmem S2048x16 .f32) (harg12 : arg12.IsWhole) (arg13 : Memref sig .tc .vmem S2048x16 .f32) (harg13 : arg13.IsWhole) (arg14 : Memref sig .tc .vmem S64x2048 .f32) (harg14 : arg14.IsWhole) (arg15 : Memref sig .tc .vmem S1x2048 .f32) (harg15 : arg15.IsWhole) (arg16 : Memref sig .tc .vmem S16x2048 .f32) (harg16 : arg16.IsWhole) (arg17 : Memref sig .tc .vmem S1x2048 .f32) (harg17 : arg17.IsWhole) (arg18 : Memref sig .tc .vmem S2048x1024 .bf16) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1024x128 .f32) (harg21 : arg21.IsWhole) (arg22 : Memref sig .tc .vmem S1x128 .f32) (harg22 : arg22.IsWhole) (arg23 : Memref sig .tc .vmem S8x128 .f32) (harg23 : arg23.IsWhole) (arg24 : Memref sig .tc .vmem S32x8x2048 .f32) (harg24 : arg24.IsWhole) (arg25 : Memref sig .tc .vmem S32x8x2048 .f32) (harg25 : arg25.IsWhole) (arg26 : Memref sig .tc .vmem S32x8x16 .f32) (harg26 : arg26.IsWhole) (arg27 : Memref sig .tc .vmem S32x8x16 .f32) (harg27 : arg27.IsWhole) (arg28 : Memref sig .tc .vmem S32x8x2048 .f32) (harg28 : arg28.IsWhole) (v5 : FVec F S1x16x2048 .f32) (v11 : FVec F S1x1x2048 .f32) (v54 : FVec F S32x8x1024 .f32) (v63 : FVec F S32x8x2048 .f32) (v97 : FVec F S32x8x2048 .f32) (v98 : FVec F S256x2048 .f32) (v118 : FVec F S32x8x2048 .f32) (X24 : BufTy.Contents (Elt F) arg24.view.ty) (X25 : BufTy.Contents (Elt F) arg25.view.ty) (X26 : BufTy.Contents (Elt F) arg26.view.ty) (X27 : BufTy.Contents (Elt F) arg27.view.ty) (G28 : BufTy.Contents (Elt F) arg28.view.ty) (init : FVec F S8x16x2048 .f32) :
    LoopExit (scanInv1 (F := F) c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v5 v11 v54 v63 v97 v98 v118 X24 X25 X26 X27 G28 init) :=
  scanExit c E arg24 arg25 arg26 arg27 arg28 harg28 v5 X24 X25 X26 X27 G28 init

set_option warn.classDefReducibility false in
/-- The scan of layer 2 goes by the scan's invariant: its region is the scan's. -/
@[sl_loop] def scanInv2 (c : Dev nD) (E : Set ℕ) (i : grid0.Coords) (arg1 : Memref sig .tc .vmem S8x32768 .f32) (harg1 : arg1.IsWhole) (arg2 : Memref sig .tc .vmem S64x32 .f32) (harg2 : arg2.IsWhole) (arg3 : Memref sig .tc .vmem S1x32 .f32) (harg3 : arg3.IsWhole) (arg4 : Memref sig .tc .vmem S32x32 .f32) (harg4 : arg4.IsWhole) (arg5 : Memref sig .tc .vmem S32x32 .f32) (harg5 : arg5.IsWhole) (arg6 : Memref sig .tc .vmem S32x32 .f32) (harg6 : arg6.IsWhole) (arg7 : Memref sig .tc .vmem S32x1 .f32) (harg7 : arg7.IsWhole) (arg8 : Memref sig .tc .vmem S1024x4096 .bf16) (harg8 : arg8.IsWhole) (arg9 : Memref sig .tc .vmem S4x2048 .f32) (harg9 : arg9.IsWhole) (arg10 : Memref sig .tc .vmem S1x2048 .f32) (harg10 : arg10.IsWhole) (arg11 : Memref sig .tc .vmem S2048x64 .f32) (harg11 : arg11.IsWhole) (arg12 : Memref sig .tc .vmem S2048x16 .f32) (harg12 : arg12.IsWhole) (arg13 : Memref sig .tc .vmem S2048x16 .f32) (harg13 : arg13.IsWhole) (arg14 : Memref sig .tc .vmem S64x2048 .f32) (harg14 : arg14.IsWhole) (arg15 : Memref sig .tc .vmem S1x2048 .f32) (harg15 : arg15.IsWhole) (arg16 : Memref sig .tc .vmem S16x2048 .f32) (harg16 : arg16.IsWhole) (arg17 : Memref sig .tc .vmem S1x2048 .f32) (harg17 : arg17.IsWhole) (arg18 : Memref sig .tc .vmem S2048x1024 .bf16) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1024x128 .f32) (harg21 : arg21.IsWhole) (arg22 : Memref sig .tc .vmem S1x128 .f32) (harg22 : arg22.IsWhole) (arg23 : Memref sig .tc .vmem S8x128 .f32) (harg23 : arg23.IsWhole) (arg24 : Memref sig .tc .vmem S32x8x2048 .f32) (harg24 : arg24.IsWhole) (arg25 : Memref sig .tc .vmem S32x8x2048 .f32) (harg25 : arg25.IsWhole) (arg26 : Memref sig .tc .vmem S32x8x16 .f32) (harg26 : arg26.IsWhole) (arg27 : Memref sig .tc .vmem S32x8x16 .f32) (harg27 : arg27.IsWhole) (arg28 : Memref sig .tc .vmem S32x8x2048 .f32) (harg28 : arg28.IsWhole) (v5 : FVec F S1x16x2048 .f32) (v11 : FVec F S1x1x2048 .f32) (v290 : FVec F S32x8x1024 .f32) (v299 : FVec F S32x8x2048 .f32) (v333 : FVec F S32x8x2048 .f32) (v376 : FVec F S8x16x2048 .f32) (c0_i32_141 : BitVec 32) (c1_i32_143 : BitVec 32) (X24 : BufTy.Contents (Elt F) arg24.view.ty) (X25 : BufTy.Contents (Elt F) arg25.view.ty) (X26 : BufTy.Contents (Elt F) arg26.view.ty) (X27 : BufTy.Contents (Elt F) arg27.view.ty) (G28 : BufTy.Contents (Elt F) arg28.view.ty) (init : FVec F S8x16x2048 .f32) :
    LoopInv (M := 𝕄) Idealize.ShloMosaic.frame (wpE (defs₀ (F := F)) Variants.none (c : Thread nD τ) none) E
      k0_t2_loop.lb k0_t2_loop.ub k0_t2_loop.st k0_t2_ok init (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v5 v11 v290 v299 v333 v376 c0_i32_141 c1_i32_143) :=
  scanInv c E arg24 arg25 arg26 arg27 arg28 v5 X24 X25 X26 X27 G28 init

/-- After the scan of layer 2 the buffer of results holds `scan` of the four others. -/
instance scanExit2 (c : Dev nD) (E : Set ℕ) (i : grid0.Coords) (arg1 : Memref sig .tc .vmem S8x32768 .f32) (harg1 : arg1.IsWhole) (arg2 : Memref sig .tc .vmem S64x32 .f32) (harg2 : arg2.IsWhole) (arg3 : Memref sig .tc .vmem S1x32 .f32) (harg3 : arg3.IsWhole) (arg4 : Memref sig .tc .vmem S32x32 .f32) (harg4 : arg4.IsWhole) (arg5 : Memref sig .tc .vmem S32x32 .f32) (harg5 : arg5.IsWhole) (arg6 : Memref sig .tc .vmem S32x32 .f32) (harg6 : arg6.IsWhole) (arg7 : Memref sig .tc .vmem S32x1 .f32) (harg7 : arg7.IsWhole) (arg8 : Memref sig .tc .vmem S1024x4096 .bf16) (harg8 : arg8.IsWhole) (arg9 : Memref sig .tc .vmem S4x2048 .f32) (harg9 : arg9.IsWhole) (arg10 : Memref sig .tc .vmem S1x2048 .f32) (harg10 : arg10.IsWhole) (arg11 : Memref sig .tc .vmem S2048x64 .f32) (harg11 : arg11.IsWhole) (arg12 : Memref sig .tc .vmem S2048x16 .f32) (harg12 : arg12.IsWhole) (arg13 : Memref sig .tc .vmem S2048x16 .f32) (harg13 : arg13.IsWhole) (arg14 : Memref sig .tc .vmem S64x2048 .f32) (harg14 : arg14.IsWhole) (arg15 : Memref sig .tc .vmem S1x2048 .f32) (harg15 : arg15.IsWhole) (arg16 : Memref sig .tc .vmem S16x2048 .f32) (harg16 : arg16.IsWhole) (arg17 : Memref sig .tc .vmem S1x2048 .f32) (harg17 : arg17.IsWhole) (arg18 : Memref sig .tc .vmem S2048x1024 .bf16) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1024x128 .f32) (harg21 : arg21.IsWhole) (arg22 : Memref sig .tc .vmem S1x128 .f32) (harg22 : arg22.IsWhole) (arg23 : Memref sig .tc .vmem S8x128 .f32) (harg23 : arg23.IsWhole) (arg24 : Memref sig .tc .vmem S32x8x2048 .f32) (harg24 : arg24.IsWhole) (arg25 : Memref sig .tc .vmem S32x8x2048 .f32) (harg25 : arg25.IsWhole) (arg26 : Memref sig .tc .vmem S32x8x16 .f32) (harg26 : arg26.IsWhole) (arg27 : Memref sig .tc .vmem S32x8x16 .f32) (harg27 : arg27.IsWhole) (arg28 : Memref sig .tc .vmem S32x8x2048 .f32) (harg28 : arg28.IsWhole) (v5 : FVec F S1x16x2048 .f32) (v11 : FVec F S1x1x2048 .f32) (v290 : FVec F S32x8x1024 .f32) (v299 : FVec F S32x8x2048 .f32) (v333 : FVec F S32x8x2048 .f32) (v376 : FVec F S8x16x2048 .f32) (c0_i32_141 : BitVec 32) (c1_i32_143 : BitVec 32) (X24 : BufTy.Contents (Elt F) arg24.view.ty) (X25 : BufTy.Contents (Elt F) arg25.view.ty) (X26 : BufTy.Contents (Elt F) arg26.view.ty) (X27 : BufTy.Contents (Elt F) arg27.view.ty) (G28 : BufTy.Contents (Elt F) arg28.view.ty) (init : FVec F S8x16x2048 .f32) :
    LoopExit (scanInv2 (F := F) c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v5 v11 v290 v299 v333 v376 c0_i32_141 c1_i32_143 X24 X25 X26 X27 G28 init) :=
  scanExit c E arg24 arg25 arg26 arg27 arg28 harg28 v5 X24 X25 X26 X27 G28 init

set_option warn.classDefReducibility false in
/-- The scan of layer 3 goes by the scan's invariant: its region is the scan's. -/
@[sl_loop] def scanInv3 (c : Dev nD) (E : Set ℕ) (i : grid0.Coords) (arg1 : Memref sig .tc .vmem S8x32768 .f32) (harg1 : arg1.IsWhole) (arg2 : Memref sig .tc .vmem S64x32 .f32) (harg2 : arg2.IsWhole) (arg3 : Memref sig .tc .vmem S1x32 .f32) (harg3 : arg3.IsWhole) (arg4 : Memref sig .tc .vmem S32x32 .f32) (harg4 : arg4.IsWhole) (arg5 : Memref sig .tc .vmem S32x32 .f32) (harg5 : arg5.IsWhole) (arg6 : Memref sig .tc .vmem S32x32 .f32) (harg6 : arg6.IsWhole) (arg7 : Memref sig .tc .vmem S32x1 .f32) (harg7 : arg7.IsWhole) (arg8 : Memref sig .tc .vmem S1024x4096 .bf16) (harg8 : arg8.IsWhole) (arg9 : Memref sig .tc .vmem S4x2048 .f32) (harg9 : arg9.IsWhole) (arg10 : Memref sig .tc .vmem S1x2048 .f32) (harg10 : arg10.IsWhole) (arg11 : Memref sig .tc .vmem S2048x64 .f32) (harg11 : arg11.IsWhole) (arg12 : Memref sig .tc .vmem S2048x16 .f32) (harg12 : arg12.IsWhole) (arg13 : Memref sig .tc .vmem S2048x16 .f32) (harg13 : arg13.IsWhole) (arg14 : Memref sig .tc .vmem S64x2048 .f32) (harg14 : arg14.IsWhole) (arg15 : Memref sig .tc .vmem S1x2048 .f32) (harg15 : arg15.IsWhole) (arg16 : Memref sig .tc .vmem S16x2048 .f32) (harg16 : arg16.IsWhole) (arg17 : Memref sig .tc .vmem S1x2048 .f32) (harg17 : arg17.IsWhole) (arg18 : Memref sig .tc .vmem S2048x1024 .bf16) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1024x128 .f32) (harg21 : arg21.IsWhole) (arg22 : Memref sig .tc .vmem S1x128 .f32) (harg22 : arg22.IsWhole) (arg23 : Memref sig .tc .vmem S8x128 .f32) (harg23 : arg23.IsWhole) (arg24 : Memref sig .tc .vmem S32x8x2048 .f32) (harg24 : arg24.IsWhole) (arg25 : Memref sig .tc .vmem S32x8x2048 .f32) (harg25 : arg25.IsWhole) (arg26 : Memref sig .tc .vmem S32x8x16 .f32) (harg26 : arg26.IsWhole) (arg27 : Memref sig .tc .vmem S32x8x16 .f32) (harg27 : arg27.IsWhole) (arg28 : Memref sig .tc .vmem S32x8x2048 .f32) (harg28 : arg28.IsWhole) (v5 : FVec F S1x16x2048 .f32) (v11 : FVec F S1x1x2048 .f32) (v526 : FVec F S32x8x1024 .f32) (v535 : FVec F S32x8x2048 .f32) (v569 : FVec F S32x8x2048 .f32) (v570 : FVec F S256x2048 .f32) (v601 : FVec F S32x8x16 .f32) (X24 : BufTy.Contents (Elt F) arg24.view.ty) (X25 : BufTy.Contents (Elt F) arg25.view.ty) (X26 : BufTy.Contents (Elt F) arg26.view.ty) (X27 : BufTy.Contents (Elt F) arg27.view.ty) (G28 : BufTy.Contents (Elt F) arg28.view.ty) (init : FVec F S8x16x2048 .f32) :
    LoopInv (M := 𝕄) Idealize.ShloMosaic.frame (wpE (defs₀ (F := F)) Variants.none (c : Thread nD τ) none) E
      k0_t3_loop.lb k0_t3_loop.ub k0_t3_loop.st k0_t3_ok init (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v5 v11 v526 v535 v569 v570 v601) :=
  scanInv c E arg24 arg25 arg26 arg27 arg28 v5 X24 X25 X26 X27 G28 init

/-- After the scan of layer 3 the buffer of results holds `scan` of the four others. -/
instance scanExit3 (c : Dev nD) (E : Set ℕ) (i : grid0.Coords) (arg1 : Memref sig .tc .vmem S8x32768 .f32) (harg1 : arg1.IsWhole) (arg2 : Memref sig .tc .vmem S64x32 .f32) (harg2 : arg2.IsWhole) (arg3 : Memref sig .tc .vmem S1x32 .f32) (harg3 : arg3.IsWhole) (arg4 : Memref sig .tc .vmem S32x32 .f32) (harg4 : arg4.IsWhole) (arg5 : Memref sig .tc .vmem S32x32 .f32) (harg5 : arg5.IsWhole) (arg6 : Memref sig .tc .vmem S32x32 .f32) (harg6 : arg6.IsWhole) (arg7 : Memref sig .tc .vmem S32x1 .f32) (harg7 : arg7.IsWhole) (arg8 : Memref sig .tc .vmem S1024x4096 .bf16) (harg8 : arg8.IsWhole) (arg9 : Memref sig .tc .vmem S4x2048 .f32) (harg9 : arg9.IsWhole) (arg10 : Memref sig .tc .vmem S1x2048 .f32) (harg10 : arg10.IsWhole) (arg11 : Memref sig .tc .vmem S2048x64 .f32) (harg11 : arg11.IsWhole) (arg12 : Memref sig .tc .vmem S2048x16 .f32) (harg12 : arg12.IsWhole) (arg13 : Memref sig .tc .vmem S2048x16 .f32) (harg13 : arg13.IsWhole) (arg14 : Memref sig .tc .vmem S64x2048 .f32) (harg14 : arg14.IsWhole) (arg15 : Memref sig .tc .vmem S1x2048 .f32) (harg15 : arg15.IsWhole) (arg16 : Memref sig .tc .vmem S16x2048 .f32) (harg16 : arg16.IsWhole) (arg17 : Memref sig .tc .vmem S1x2048 .f32) (harg17 : arg17.IsWhole) (arg18 : Memref sig .tc .vmem S2048x1024 .bf16) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1024x128 .f32) (harg21 : arg21.IsWhole) (arg22 : Memref sig .tc .vmem S1x128 .f32) (harg22 : arg22.IsWhole) (arg23 : Memref sig .tc .vmem S8x128 .f32) (harg23 : arg23.IsWhole) (arg24 : Memref sig .tc .vmem S32x8x2048 .f32) (harg24 : arg24.IsWhole) (arg25 : Memref sig .tc .vmem S32x8x2048 .f32) (harg25 : arg25.IsWhole) (arg26 : Memref sig .tc .vmem S32x8x16 .f32) (harg26 : arg26.IsWhole) (arg27 : Memref sig .tc .vmem S32x8x16 .f32) (harg27 : arg27.IsWhole) (arg28 : Memref sig .tc .vmem S32x8x2048 .f32) (harg28 : arg28.IsWhole) (v5 : FVec F S1x16x2048 .f32) (v11 : FVec F S1x1x2048 .f32) (v526 : FVec F S32x8x1024 .f32) (v535 : FVec F S32x8x2048 .f32) (v569 : FVec F S32x8x2048 .f32) (v570 : FVec F S256x2048 .f32) (v601 : FVec F S32x8x16 .f32) (X24 : BufTy.Contents (Elt F) arg24.view.ty) (X25 : BufTy.Contents (Elt F) arg25.view.ty) (X26 : BufTy.Contents (Elt F) arg26.view.ty) (X27 : BufTy.Contents (Elt F) arg27.view.ty) (G28 : BufTy.Contents (Elt F) arg28.view.ty) (init : FVec F S8x16x2048 .f32) :
    LoopExit (scanInv3 (F := F) c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v5 v11 v526 v535 v569 v570 v601 X24 X25 X26 X27 G28 init) :=
  scanExit c E arg24 arg25 arg26 arg27 arg28 harg28 v5 X24 X25 X26 X27 G28 init

set_option warn.classDefReducibility false in
/-- The scan of layer 4 goes by the scan's invariant: its region is the scan's. -/
@[sl_loop] def scanInv4 (c : Dev nD) (E : Set ℕ) (i : grid0.Coords) (arg1 : Memref sig .tc .vmem S8x32768 .f32) (harg1 : arg1.IsWhole) (arg2 : Memref sig .tc .vmem S64x32 .f32) (harg2 : arg2.IsWhole) (arg3 : Memref sig .tc .vmem S1x32 .f32) (harg3 : arg3.IsWhole) (arg4 : Memref sig .tc .vmem S32x32 .f32) (harg4 : arg4.IsWhole) (arg5 : Memref sig .tc .vmem S32x32 .f32) (harg5 : arg5.IsWhole) (arg6 : Memref sig .tc .vmem S32x32 .f32) (harg6 : arg6.IsWhole) (arg7 : Memref sig .tc .vmem S32x1 .f32) (harg7 : arg7.IsWhole) (arg8 : Memref sig .tc .vmem S1024x4096 .bf16) (harg8 : arg8.IsWhole) (arg9 : Memref sig .tc .vmem S4x2048 .f32) (harg9 : arg9.IsWhole) (arg10 : Memref sig .tc .vmem S1x2048 .f32) (harg10 : arg10.IsWhole) (arg11 : Memref sig .tc .vmem S2048x64 .f32) (harg11 : arg11.IsWhole) (arg12 : Memref sig .tc .vmem S2048x16 .f32) (harg12 : arg12.IsWhole) (arg13 : Memref sig .tc .vmem S2048x16 .f32) (harg13 : arg13.IsWhole) (arg14 : Memref sig .tc .vmem S64x2048 .f32) (harg14 : arg14.IsWhole) (arg15 : Memref sig .tc .vmem S1x2048 .f32) (harg15 : arg15.IsWhole) (arg16 : Memref sig .tc .vmem S16x2048 .f32) (harg16 : arg16.IsWhole) (arg17 : Memref sig .tc .vmem S1x2048 .f32) (harg17 : arg17.IsWhole) (arg18 : Memref sig .tc .vmem S2048x1024 .bf16) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1024x128 .f32) (harg21 : arg21.IsWhole) (arg22 : Memref sig .tc .vmem S1x128 .f32) (harg22 : arg22.IsWhole) (arg23 : Memref sig .tc .vmem S8x128 .f32) (harg23 : arg23.IsWhole) (arg24 : Memref sig .tc .vmem S32x8x2048 .f32) (harg24 : arg24.IsWhole) (arg25 : Memref sig .tc .vmem S32x8x2048 .f32) (harg25 : arg25.IsWhole) (arg26 : Memref sig .tc .vmem S32x8x16 .f32) (harg26 : arg26.IsWhole) (arg27 : Memref sig .tc .vmem S32x8x16 .f32) (harg27 : arg27.IsWhole) (arg28 : Memref sig .tc .vmem S32x8x2048 .f32) (harg28 : arg28.IsWhole) (v5 : FVec F S1x16x2048 .f32) (v11 : FVec F S1x1x2048 .f32) (v771 : FVec F S32x8x2048 .f32) (v805 : FVec F S32x8x2048 .f32) (v806 : FVec F S256x2048 .f32) (v826 : FVec F S32x8x2048 .f32) (v827 : FVec F S32x8x2048 .f32) (v828 : Vec F S32x8x2048 .f32) (X24 : BufTy.Contents (Elt F) arg24.view.ty) (X25 : BufTy.Contents (Elt F) arg25.view.ty) (X26 : BufTy.Contents (Elt F) arg26.view.ty) (X27 : BufTy.Contents (Elt F) arg27.view.ty) (G28 : BufTy.Contents (Elt F) arg28.view.ty) (init : FVec F S8x16x2048 .f32) :
    LoopInv (M := 𝕄) Idealize.ShloMosaic.frame (wpE (defs₀ (F := F)) Variants.none (c : Thread nD τ) none) E
      k0_t4_loop.lb k0_t4_loop.ub k0_t4_loop.st k0_t4_ok init (k0_t4_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v5 v11 v771 v805 v806 v826 v827 v828) :=
  scanInv c E arg24 arg25 arg26 arg27 arg28 v5 X24 X25 X26 X27 G28 init

/-- After the scan of layer 4 the buffer of results holds `scan` of the four others. -/
instance scanExit4 (c : Dev nD) (E : Set ℕ) (i : grid0.Coords) (arg1 : Memref sig .tc .vmem S8x32768 .f32) (harg1 : arg1.IsWhole) (arg2 : Memref sig .tc .vmem S64x32 .f32) (harg2 : arg2.IsWhole) (arg3 : Memref sig .tc .vmem S1x32 .f32) (harg3 : arg3.IsWhole) (arg4 : Memref sig .tc .vmem S32x32 .f32) (harg4 : arg4.IsWhole) (arg5 : Memref sig .tc .vmem S32x32 .f32) (harg5 : arg5.IsWhole) (arg6 : Memref sig .tc .vmem S32x32 .f32) (harg6 : arg6.IsWhole) (arg7 : Memref sig .tc .vmem S32x1 .f32) (harg7 : arg7.IsWhole) (arg8 : Memref sig .tc .vmem S1024x4096 .bf16) (harg8 : arg8.IsWhole) (arg9 : Memref sig .tc .vmem S4x2048 .f32) (harg9 : arg9.IsWhole) (arg10 : Memref sig .tc .vmem S1x2048 .f32) (harg10 : arg10.IsWhole) (arg11 : Memref sig .tc .vmem S2048x64 .f32) (harg11 : arg11.IsWhole) (arg12 : Memref sig .tc .vmem S2048x16 .f32) (harg12 : arg12.IsWhole) (arg13 : Memref sig .tc .vmem S2048x16 .f32) (harg13 : arg13.IsWhole) (arg14 : Memref sig .tc .vmem S64x2048 .f32) (harg14 : arg14.IsWhole) (arg15 : Memref sig .tc .vmem S1x2048 .f32) (harg15 : arg15.IsWhole) (arg16 : Memref sig .tc .vmem S16x2048 .f32) (harg16 : arg16.IsWhole) (arg17 : Memref sig .tc .vmem S1x2048 .f32) (harg17 : arg17.IsWhole) (arg18 : Memref sig .tc .vmem S2048x1024 .bf16) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1024x128 .f32) (harg21 : arg21.IsWhole) (arg22 : Memref sig .tc .vmem S1x128 .f32) (harg22 : arg22.IsWhole) (arg23 : Memref sig .tc .vmem S8x128 .f32) (harg23 : arg23.IsWhole) (arg24 : Memref sig .tc .vmem S32x8x2048 .f32) (harg24 : arg24.IsWhole) (arg25 : Memref sig .tc .vmem S32x8x2048 .f32) (harg25 : arg25.IsWhole) (arg26 : Memref sig .tc .vmem S32x8x16 .f32) (harg26 : arg26.IsWhole) (arg27 : Memref sig .tc .vmem S32x8x16 .f32) (harg27 : arg27.IsWhole) (arg28 : Memref sig .tc .vmem S32x8x2048 .f32) (harg28 : arg28.IsWhole) (v5 : FVec F S1x16x2048 .f32) (v11 : FVec F S1x1x2048 .f32) (v771 : FVec F S32x8x2048 .f32) (v805 : FVec F S32x8x2048 .f32) (v806 : FVec F S256x2048 .f32) (v826 : FVec F S32x8x2048 .f32) (v827 : FVec F S32x8x2048 .f32) (v828 : Vec F S32x8x2048 .f32) (X24 : BufTy.Contents (Elt F) arg24.view.ty) (X25 : BufTy.Contents (Elt F) arg25.view.ty) (X26 : BufTy.Contents (Elt F) arg26.view.ty) (X27 : BufTy.Contents (Elt F) arg27.view.ty) (G28 : BufTy.Contents (Elt F) arg28.view.ty) (init : FVec F S8x16x2048 .f32) :
    LoopExit (scanInv4 (F := F) c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v5 v11 v771 v805 v806 v826 v827 v828 X24 X25 X26 X27 G28 init) :=
  scanExit c E arg24 arg25 arg26 arg27 arg28 harg28 v5 X24 X25 X26 X27 G28 init

end Cert.KernelIdeal.Body
-- ==== Proof.Body.lean ====
/- The kernel's body at one grid point: what it stores, as a function of its 21 input blocks. -/
module

public import proofs.«01_k».proof.Proof.Scan
public import proofs.«01_k».proof.Proof.Gen.KernelIdeal.Frame
public import Idealize.ShloMosaic.Lib.Pipeline.TableIdle
public import Idealize.ShloMosaic.Lib.VecWindow

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A memref held at any contents is owned at some value. -/
theorem some_owned (c : Dev nD) {sp : Space} {s : Shape} {e : EltTy} (M : Memref sig .tc sp s e) (f : M.view.ty.Contents (Elt F)) :
    (M.view.loc (c : Thread nD τ) ↦[M.view.set]{fullShare} f : sProp 𝕄) ⊢ iprop(∃ d, M.view.loc (c : Thread nD τ) ↦[M.view.set]{fullShare} M.view.rep d) := by
  have h : (M.view.loc (c : Thread nD τ) ↦[M.view.set]{fullShare} f : sProp 𝕄) ⊢ owns (c : Thread nD τ) M fullShare (M.view.read (Elt F) f) := by
    unfold owns
    iintro H
    iexists _; isplitr; · ipureintro; rfl
    iexact H
  rw [owns_eq_rep] at h
  iintro H
  iexists _
  iapply h; iexact H

/-- A memref stored whole is owned at the value stored. -/
theorem stored_owned (c : Dev nD) {sp : Space} {s : Shape} {e : EltTy} (M : Memref sig .tc sp s e) (f : M.view.ty.Contents (Elt F))
    {off : Fin s.rank → ℕ} (inb : ∀ a, off a + s.size a ≤ s.size a) (w : s.Idx → Elt F e) (L : List (View.Piece (Elt F) s e)) :
    (M.view.loc (c : Thread nD τ) ↦[M.view.set]{fullShare} M.view.writes (Elt F) f (⟨Rect.unit off s.size inb, w⟩ :: L) : sProp 𝕄)
      ⊢ (M.view.loc (c : Thread nD τ) ↦[M.view.set]{fullShare} M.view.rep w) := by
  rw [← owns_eq_rep]
  unfold owns
  iintro H
  iexists _; isplitr; swap; · iexact H
  ipureintro
  exact View.read_writes_full _ _ inb w L

set_option maxHeartbeats 4000000 in
/-- The body's triple: from the input blocks `x0 … x21`, the output block and the five scratch buffers at anything, the body
    runs to its end, where the inputs are as they were and the output block is owned at a value found by the run. -/
def kernelRun (c : Dev nD) (i : grid0.Coords) (arg1 : Memref sig .tc .vmem S8x32768 .f32) (harg1 : arg1.IsWhole) (arg2 : Memref sig .tc .vmem S64x32 .f32) (harg2 : arg2.IsWhole) (arg3 : Memref sig .tc .vmem S1x32 .f32) (harg3 : arg3.IsWhole) (arg4 : Memref sig .tc .vmem S32x32 .f32) (harg4 : arg4.IsWhole) (arg5 : Memref sig .tc .vmem S32x32 .f32) (harg5 : arg5.IsWhole) (arg6 : Memref sig .tc .vmem S32x32 .f32) (harg6 : arg6.IsWhole) (arg7 : Memref sig .tc .vmem S32x1 .f32) (harg7 : arg7.IsWhole) (arg8 : Memref sig .tc .vmem S1024x4096 .bf16) (harg8 : arg8.IsWhole) (arg9 : Memref sig .tc .vmem S4x2048 .f32) (harg9 : arg9.IsWhole) (arg10 : Memref sig .tc .vmem S1x2048 .f32) (harg10 : arg10.IsWhole) (arg11 : Memref sig .tc .vmem S2048x64 .f32) (harg11 : arg11.IsWhole) (arg12 : Memref sig .tc .vmem S2048x16 .f32) (harg12 : arg12.IsWhole) (arg13 : Memref sig .tc .vmem S2048x16 .f32) (harg13 : arg13.IsWhole) (arg14 : Memref sig .tc .vmem S64x2048 .f32) (harg14 : arg14.IsWhole) (arg15 : Memref sig .tc .vmem S1x2048 .f32) (harg15 : arg15.IsWhole) (arg16 : Memref sig .tc .vmem S16x2048 .f32) (harg16 : arg16.IsWhole) (arg17 : Memref sig .tc .vmem S1x2048 .f32) (harg17 : arg17.IsWhole) (arg18 : Memref sig .tc .vmem S2048x1024 .bf16) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1024x128 .f32) (harg21 : arg21.IsWhole) (arg22 : Memref sig .tc .vmem S1x128 .f32) (harg22 : arg22.IsWhole) (arg23 : Memref sig .tc .vmem S8x128 .f32) (harg23 : arg23.IsWhole) (arg24 : Memref sig .tc .vmem S32x8x2048 .f32) (harg24 : arg24.IsWhole) (arg25 : Memref sig .tc .vmem S32x8x2048 .f32) (harg25 : arg25.IsWhole) (arg26 : Memref sig .tc .vmem S32x8x16 .f32) (harg26 : arg26.IsWhole) (arg27 : Memref sig .tc .vmem S32x8x16 .f32) (harg27 : arg27.IsWhole) (arg28 : Memref sig .tc .vmem S32x8x2048 .f32) (harg28 : arg28.IsWhole)
    (x0 : Vec F S8x32768 .f32) (x1 : Vec F S64x32 .f32) (x2 : Vec F S1x32 .f32) (x3 : Vec F S32x32 .f32) (x4 : Vec F S32x32 .f32) (x5 : Vec F S32x32 .f32) (x6 : Vec F S32x1 .f32) (x7 : Vec F S1024x4096 .bf16) (x8 : Vec F S4x2048 .f32) (x9 : Vec F S1x2048 .f32) (x10 : Vec F S2048x64 .f32) (x11 : Vec F S2048x16 .f32) (x12 : Vec F S2048x16 .f32) (x13 : Vec F S64x2048 .f32) (x14 : Vec F S1x2048 .f32) (x15 : Vec F S16x2048 .f32) (x16 : Vec F S1x2048 .f32) (x17 : Vec F S2048x1024 .bf16) (x18 : Vec F S1x1024 .f32) (x19 : Vec F S1x1024 .f32) (x20 : Vec F S1024x128 .f32) (x21 : Vec F S1x128 .f32) :
    { v : Vec F S8x128 .f32 // ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare v ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d)) -∗ K ⟨⟩))
          ⊢ wp frame (wpE (defs₀ (F := F)) Variants.none c none) E (cc0__model_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K } := by
  refine ⟨?_, fun E K => ?run⟩
  case run =>
    rw [cc0__model_kernel_eq_skeleton]; unfold cc0__model_kernel_skel
    simp only [owns_eq_rep]
    iintro ⟨H0, H1, H2, H3, H4, H5, H6, H7, H8, H9, H10, H11, H12, H13, H14, H15, H16, H17, H18, H19, H20, H21, ⟨%d22, H22⟩, ⟨%ds0, HS0⟩, ⟨%ds1, HS1⟩, ⟨%ds2, HS2⟩, ⟨%ds3, HS3⟩, ⟨%ds4, HS4⟩, Hk⟩
    sl_exec_parts
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iapply (stored_owned c arg23 _ _ _ _); iexact H22
    isplitl [HL15]; · iapply (some_owned c arg24 _); iexact HL15
    isplitl [HL16]; · iapply (some_owned c arg25 _); iexact HL16
    isplitl [HL17]; · iapply (some_owned c arg26 _); iexact HL17
    isplitl [HL18]; · iapply (some_owned c arg27 _); iexact HL18
    iapply (some_owned c arg28 _); iexact HL19

end Cert.KernelIdeal.Body
-- ==== Proof.BodyVal.lean ====
/- What the body stores, named: one layer as a function of its input and the weights, iterated four times, then the head. -/
module

public import proofs.«01_k».proof.Proof.Body

@[expose] public section

set_option maxRecDepth 16384

noncomputable section

namespace Cert.KernelIdeal.Body

open Cert.KernelIdeal Cert.KernelIdeal.Gen
open Idealize.ShloMosaic Idealize.ShloMosaic.TcCoe

variable {F : FTy → Type} [FloatOps F]

/-- The padded input cut into windows of 32, from offset 0. -/
def frames (x : Vec F S8x32768 .f32) : FVec F S8x1026x32 .f32 :=
  shapeCast S8x1026x32 (extractStridedSlice S8x32832 ![0, 0] (k0_pay4 x) slices_S8x32848_o0_0_S8x32832) shapeCasts_S8x32832_S8x1026x32

/-- The padded input cut into windows of 32, from offset 16. -/
def frames16 (x : Vec F S8x32768 .f32) : FVec F S8x1026x32 .f32 :=
  shapeCast S8x1026x32 (extractStridedSlice S8x32832 ![0, 16] (k0_pay4 x) slices_S8x32848_o0_16_S8x32832) shapeCasts_S8x32832_S8x1026x32

/-- The windows from offset 16 but the first. -/
def frames16Tail (x : Vec F S8x32768 .f32) : FVec F S8x1024x32 .f32 :=
  extractStridedSlice S8x1024x32 ![0, 1, 0] (frames16 x) slices_S8x1026x32_o0_1_0_S8x1024x32

/-- The weights that every layer uses, as the kernel's input blocks hold them. -/
structure Wts (F : FTy → Type) [FloatOps F] where
  w1 : Vec F S64x32 .f32
  b1 : Vec F S1x32 .f32
  w20 : Vec F S32x32 .f32
  w21 : Vec F S32x32 .f32
  w22 : Vec F S32x32 .f32
  b2 : Vec F S32x1 .f32
  win : Vec F S1024x4096 .bf16
  wm : Vec F S4x2048 .f32
  bm : Vec F S1x2048 .f32
  wpdt : Vec F S2048x64 .f32
  wpb : Vec F S2048x16 .f32
  wpc : Vec F S2048x16 .f32
  wdt : Vec F S64x2048 .f32
  bdt : Vec F S1x2048 .f32
  alogt : Vec F S16x2048 .f32
  dres : Vec F S1x2048 .f32
  wout : Vec F S2048x1024 .bf16

namespace Wts

variable (W : Wts F)

/-- Row `k` of the depthwise taps. -/
def tap (k : ℕ) (h : ∀ a, ![k, 0] a + S1x2048.size a ≤ S4x2048.size a) : Vec F S1x2048 .f32 :=
  VecWindow.window W.wm ![k, 0] S1x2048.size h

/-- The first 32 taps of the frame convolution. -/
def w1a : Vec F S32x32 .f32 := VecWindow.window W.w1 ![0, 0] S32x32.size inb_S64x32_S32x32_0_0
/-- The last 32 taps of the frame convolution. -/
def w1b : Vec F S32x32 .f32 := VecWindow.window W.w1 ![32, 0] S32x32.size inb_S64x32_S32x32_32_0

variable (x : Vec F S8x32768 .f32)

/-- The convolution at the even frames. -/
def ev : FVec F S8192x32 .f32 := k0_pay7 x W.w1a W.w1b
/-- The convolution at the odd frames. -/
def od : FVec F S8192x32 .f32 := k0_pay8 x W.w1a W.w1b
/-- The pooled frames, time first. -/
def xseq : FVec F S32x8x1024 .f32 := k0_pay9 (W.ev x) (W.od x) W.b1 W.b1
/-- The input half of the projection. -/
def xm : FVec F S32x8x2048 .f32 := k0_pay11 (W.ev x) (W.od x) W.b1 W.b1 W.win
/-- The gate half of the projection. -/
def z : FVec F S32x8x2048 .f32 := k0_pay12 (W.ev x) (W.od x) W.b1 W.b1 W.win
/-- The causal depthwise convolution of the input half, its last two taps. -/
def conv01 : FVec F S32x8x2048 .f32 := k0_pay14 (k0_pay2 W.bm) (W.ev x) (W.od x) W.b1 W.b1 W.win
  (W.tap 3 inb_S4x2048_S1x2048_3_0) (W.tap 2 inb_S4x2048_S1x2048_2_0)
/-- The input half two steps late. -/
def late2 : FVec F S32x8x2048 .f32 := k0_pay15 (W.ev x) (W.od x) W.b1 W.b1 W.win
/-- The activated depthwise convolution. -/
def xma : FVec F S32x8x2048 .f32 := k0_pay16 (W.xm x) k0_pay13 (W.conv01 x) (W.late2 x)
  (W.tap 1 inb_S4x2048_S1x2048_1_0) (W.tap 0 inb_S4x2048_S1x2048_0_0)
/-- The same, one row a time step and batch row. -/
def xmaR : FVec F S256x2048 .f32 := k0_pay17 (W.xm x) k0_pay13 (W.conv01 x) (W.late2 x)
  (W.tap 1 inb_S4x2048_S1x2048_1_0) (W.tap 0 inb_S4x2048_S1x2048_0_0)
/-- The step sizes. -/
def delta : FVec F S32x8x2048 .f32 := k0_pay20 (k0_pay18 (W.xm x) k0_pay13 (W.conv01 x) (W.late2 x)
  (W.tap 1 inb_S4x2048_S1x2048_1_0) (W.tap 0 inb_S4x2048_S1x2048_0_0) W.wpdt W.wdt W.bdt)
/-- Step size times input. -/
def u : FVec F S32x8x2048 .f32 := k0_pay19 (W.xm x) k0_pay13 (W.conv01 x) (W.late2 x)
  (W.tap 1 inb_S4x2048_S1x2048_1_0) (W.tap 0 inb_S4x2048_S1x2048_0_0) W.wpdt W.wdt W.bdt
/-- The input projections of the state. -/
def bs : FVec F S32x8x16 .f32 := k0_pay21 (W.xmaR x) W.wpb
/-- The output projections of the state. -/
def cs : FVec F S32x8x16 .f32 := k0_pay22 (W.xmaR x) W.wpc
/-- The recurrence's results. -/
def ys : FVec F S32x8x2048 .f32 := scan (k0_pay1 W.alogt) (W.delta x) (W.u x) (W.bs x) (W.cs x) k0_pay23
/-- The block's output with its residual. -/
def x2 : FVec F S32x8x1024 .f32 := k0_pay26 (k0_pay3 W.dres) (W.xseq x) (W.z x) (W.xma x) (W.ys x) W.wout
/-- The layer's output, time first. -/
def layer : FVec F S32x8x1024 .f32 := k0_pay27 (W.x2 x) W.w20 W.w21 W.w22 W.b2

/-- The frames' convolution, biased and rectified, at the even frames. -/
def evR : FVec F S8192x32 .f32 := maximumf (addf (W.ev x) (broadcastTo S8192x32 (shapeCast S1x32 W.b1 shapeCasts_S1x32_S1x32)
  broadcasts_S1x32_S8192x32)) (broadcast S8192x32 (Scalar.ofBits .f32 0x00000000#32))
/-- The frames' convolution, biased and rectified, at the odd frames. -/
def odR : FVec F S8192x32 .f32 := maximumf (addf (W.od x) (broadcastTo S8192x32 (shapeCast S1x32 W.b1 shapeCasts_S1x32_S1x32)
  broadcasts_S1x32_S8192x32)) (broadcast S8192x32 (Scalar.ofBits .f32 0x00000000#32))
/-- The first half of the odd frames' convolution. -/
def odHead : FVec F S8192x32 .f32 := matmul dot_S8192x32_S32x32_S8192x32_1_0_0_1_n_n none
  (shapeCast S8192x32 (extractStridedSlice S8x1024x32 ![0, 0, 0] (frames16 x) slices_S8x1026x32_o0_0_0_S8x1024x32)
    shapeCasts_S8x1024x32_S8192x32) (k0_pay5 W.w1a) (constant S8192x32 .f32 0x00000000#32)
/-- The depthwise convolution. -/
def conv : FVec F S32x8x2048 .f32 := k0_pay99 (k0_pay2 W.bm) (W.evR x) (W.odR x) W.win
  (W.tap 3 inb_S4x2048_S1x2048_3_0) (W.tap 2 inb_S4x2048_S1x2048_2_0) (W.tap 1 inb_S4x2048_S1x2048_1_0)
  (W.tap 0 inb_S4x2048_S1x2048_0_0)
/-- The step sizes, as computed. -/
def deltaRaw : FVec F S32x8x2048 .f32 := k0_pay18 (W.xm x) k0_pay13 (W.conv01 x) (W.late2 x)
  (W.tap 1 inb_S4x2048_S1x2048_1_0) (W.tap 0 inb_S4x2048_S1x2048_0_0) W.wpdt W.wdt W.bdt
/-- Step size times input, as computed. -/
def uRaw : FVec F S32x8x2048 .f32 := mulf (W.deltaRaw x) (W.xma x)
/-- The last tap's part of the depthwise convolution, with its bias. -/
def tapThree : FVec F S32x8x2048 .f32 := addf (mulf (W.xm x) (broadcastTo S32x8x2048 (shapeCast S1x1x2048 (shapeCast S1x2048 (W.tap 3 inb_S4x2048_S1x2048_3_0)
  shapeCasts_S1x2048_S1x2048) shapeCasts_S1x2048_S1x1x2048) broadcasts_S1x1x2048_S32x8x2048))
  (broadcastTo S32x8x2048 (k0_pay2 W.bm) broadcasts_S1x1x2048_S32x8x2048)
/-- The part of the tap before it. -/
def tapTwo : FVec F S32x8x2048 .f32 := mulf (concatenate S32x8x2048 0 [⟨S1x8x2048, k0_pay147 (F := F)⟩,
  ⟨S31x8x2048, extractStridedSlice S31x8x2048 ![0, 0, 0] (W.xm x) slices_S32x8x2048_o0_0_0_S31x8x2048⟩]
  concatenates_S1x8x2048_S31x8x2048_S32x8x2048_d0) (broadcastTo S32x8x2048 (shapeCast S1x1x2048 (shapeCast S1x2048 (W.tap 2 inb_S4x2048_S1x2048_2_0)
  shapeCasts_S1x2048_S1x2048) shapeCasts_S1x2048_S1x1x2048) broadcasts_S1x1x2048_S32x8x2048)
/-- The step sizes before the softplus. -/
def dtPre : FVec F S256x2048 .f32 := k0_pay49 (k0_pay2 W.bm) (W.xm x) k0_pay46 (W.tap 3 inb_S4x2048_S1x2048_3_0) (W.tap 2 inb_S4x2048_S1x2048_2_0) (W.tap 1 inb_S4x2048_S1x2048_1_0)
  (W.tap 0 inb_S4x2048_S1x2048_0_0) W.wpdt W.wdt W.bdt
/-- Their positive part. -/
def dtPos : FVec F S256x2048 .f32 := k0_pay50 (k0_pay2 W.bm) (W.xm x) k0_pay46 (W.tap 3 inb_S4x2048_S1x2048_3_0) (W.tap 2 inb_S4x2048_S1x2048_2_0) (W.tap 1 inb_S4x2048_S1x2048_1_0)
  (W.tap 0 inb_S4x2048_S1x2048_0_0) W.wpdt W.wdt W.bdt
/-- The gated block output, before its projection. -/
def gated : FVec F S256x2048 .bf16 := k0_pay161 (k0_pay3 W.dres) (W.z x) (W.xma x) (W.ys x)

end Wts

/-- Time step `k` of a layer's output. -/
def stepRow (y : FVec F S32x8x1024 .f32) (k : Fin 32) : FVec F S8x1024 .f32 :=
  shapeCast S8x1024 (extractStridedSlice S1x8x1024 ![k.val, 0, 0] y
    ⟨rfl, fun a => match a with
      | ⟨0, _⟩ => k.isLt
      | ⟨1, _⟩ => Nat.le_refl 8
      | ⟨2, _⟩ => Nat.le_refl 1024⟩) shapeCasts_S1x8x1024_S8x1024

/-- A layer's output as the next layer's input: the time steps one after another. -/
def flat (y : FVec F S32x8x1024 .f32) : FVec F S8x32768 .f32 :=
  concatenate S8x32768 1 (List.ofFn fun k : Fin 32 => (⟨S8x1024, stepRow y k⟩ : (s : Shape) × (s.Idx → F .f32)))
    concatenates_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x32768_d1

/-- The centred rows of the last layer's output. -/
def centred (y : FVec F S32x8x1024 .f32) : FVec F S32x8x1024 .f32 :=
  subf y (broadcastTo S32x8x1024 (divf (shapeCast S32x8x1 (multiReduction .add [2] S32x8 y 0x00000000#32
    reduces_S32x8x1024_S32x8 (.inl rfl) rfl) shapeCasts_S32x8_S32x8x1) (broadcast S32x8x1 (Scalar.ofBits .f32 0x44800000#32)))
    broadcasts_S32x8x1_S32x8x1024)

/-- The sums of squares of the centred rows. -/
def sqSum (y : FVec F S32x8x1024 .f32) : FVec F S32x8x1 .f32 :=
  shapeCast S32x8x1 (multiReduction .add [2] S32x8 (mulf (centred y) (centred y)) 0x00000000#32
    reduces_S32x8x1024_S32x8 (.inl rfl) rfl) shapeCasts_S32x8_S32x8x1

/-- The head: layer norm, the mean over time, the classifier. -/
def head (y : FVec F S32x8x1024 .f32) (lng lnb : Vec F S1x1024 .f32) (wfc : Vec F S1024x128 .f32) (bfc : Vec F S1x128 .f32) :
    FVec F S8x128 .f32 := k0_pay165 (centred y) (sqSum y) k0_pay164 lng lnb wfc bfc

/-- The kernel's block of results. -/
def OUT (W : Wts F) (x : Vec F S8x32768 .f32) (lng lnb : Vec F S1x1024 .f32) (wfc : Vec F S1024x128 .f32) (bfc : Vec F S1x128 .f32) :
    FVec F S8x128 .f32 :=
  head (W.layer (flat (W.layer (flat (W.layer (flat (W.layer x))))))) lng lnb wfc bfc

/-- A load through the view of a rectangle of a representative is that window. -/
theorem readAt_window {κ : Kind} {sp : Space} {s : Shape} {e : EltTy} (v : View sig κ sp s e) (x : s.Idx → Elt F e)
    {off size : Fin s.rank → ℕ} (inb : ∀ a, off a + size a ≤ s.size a) :
    v.readAt (Elt F) (Rect.unit off size inb).toLoadRect (v.rep x) = VecWindow.window x off size inb :=
  View.readAt_rep_unit v x inb rfl inb

section
variable (arg1 : Memref sig .tc .vmem S8x32768 .f32) (arg2 : Memref sig .tc .vmem S64x32 .f32) (arg3 : Memref sig .tc .vmem S1x32 .f32) (arg4 : Memref sig .tc .vmem S32x32 .f32) (arg5 : Memref sig .tc .vmem S32x32 .f32) (arg6 : Memref sig .tc .vmem S32x32 .f32) (arg7 : Memref sig .tc .vmem S32x1 .f32) (arg8 : Memref sig .tc .vmem S1024x4096 .bf16) (arg9 : Memref sig .tc .vmem S4x2048 .f32) (arg10 : Memref sig .tc .vmem S1x2048 .f32) (arg11 : Memref sig .tc .vmem S2048x64 .f32) (arg12 : Memref sig .tc .vmem S2048x16 .f32) (arg13 : Memref sig .tc .vmem S2048x16 .f32) (arg14 : Memref sig .tc .vmem S64x2048 .f32) (arg15 : Memref sig .tc .vmem S1x2048 .f32) (arg16 : Memref sig .tc .vmem S16x2048 .f32) (arg17 : Memref sig .tc .vmem S1x2048 .f32) (arg18 : Memref sig .tc .vmem S2048x1024 .bf16) (arg19 : Memref sig .tc .vmem S1x1024 .f32) (arg20 : Memref sig .tc .vmem S1x1024 .f32) (arg21 : Memref sig .tc .vmem S1024x128 .f32) (arg22 : Memref sig .tc .vmem S1x128 .f32) (arg23 : Memref sig .tc .vmem S8x128 .f32) (arg24 : Memref sig .tc .vmem S32x8x2048 .f32) (arg25 : Memref sig .tc .vmem S32x8x2048 .f32) (arg26 : Memref sig .tc .vmem S32x8x16 .f32) (arg27 : Memref sig .tc .vmem S32x8x16 .f32) (arg28 : Memref sig .tc .vmem S32x8x2048 .f32) (harg28 : arg28.IsWhole)
  (x0 : Vec F S8x32768 .f32) (x1 : Vec F S64x32 .f32) (x2 : Vec F S1x32 .f32) (x3 : Vec F S32x32 .f32) (x4 : Vec F S32x32 .f32) (x5 : Vec F S32x32 .f32) (x6 : Vec F S32x1 .f32) (x7 : Vec F S1024x4096 .bf16) (x8 : Vec F S4x2048 .f32) (x9 : Vec F S1x2048 .f32) (x10 : Vec F S2048x64 .f32) (x11 : Vec F S2048x16 .f32) (x12 : Vec F S2048x16 .f32) (x13 : Vec F S64x2048 .f32) (x14 : Vec F S1x2048 .f32) (x15 : Vec F S16x2048 .f32) (x16 : Vec F S1x2048 .f32) (x17 : Vec F S2048x1024 .bf16) (x18 : Vec F S1x1024 .f32) (x19 : Vec F S1x1024 .f32) (x20 : Vec F S1024x128 .f32) (x21 : Vec F S1x128 .f32)

set_option maxHeartbeats 1000000 in
/-- Layer 1's block output. -/
theorem x2_first : kernelRun.sl.r_14 arg1 arg2 arg3 arg8 arg9 arg10 arg11 arg12 arg13 arg14 arg15 arg16 arg17 arg18 arg24 arg25 arg26 arg27 arg28 harg28 x0 x1 x2 x7 x8 x9 x10 x11 x12 x13 x14 x15 x16 x17 = Wts.x2 (⟨x1, x2, x3, x4, x5, x6, x7, x8, x9, x10, x11, x12, x13, x14, x15, x16, x17⟩ : Wts F) x0 := by
  rw [kernelRun.sl.r_14, kernelRun.sl.v143, View.readAt_full, Memref.IsWhole.read_unread, kernelRun.sl.HS0_1, kernelRun.sl.HS1_1,
    kernelRun.sl.HS2_1, kernelRun.sl.HS3_1, View.read_writes_full, View.read_writes_full, View.read_writes_full, View.read_writes_full]
  simp only [kernelRun.sl.r, kernelRun.sl.r_1, kernelRun.sl.r_2, kernelRun.sl.r_3, kernelRun.sl.r_4, kernelRun.sl.r_5, kernelRun.sl.r_6, kernelRun.sl.r_7, kernelRun.sl.r_8, kernelRun.sl.r_9, kernelRun.sl.r_10, kernelRun.sl.r_11, kernelRun.sl.r_12, kernelRun.sl.r_13, ↓View.readAt_rep_full, ↓readAt_window]
  rfl

/-- Layer 1's output. -/
theorem layer_first : kernelRun.sl.r_15 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = (Wts.layer (⟨x1, x2, x3, x4, x5, x6, x7, x8, x9, x10, x11, x12, x13, x14, x15, x16, x17⟩ : Wts F) x0) := by
  (simp only [kernelRun.sl.r_15, x2_first arg1 arg2 arg3 arg8 arg9 arg10 arg11 arg12 arg13 arg14 arg15 arg16 arg17 arg18 arg24 arg25 arg26 arg27 arg28 harg28 x0 x1 x2 x3 x4 x5 x6 x7 x8 x9 x10 x11 x12 x13 x14 x15 x16 x17, ↓View.readAt_rep_full, ↓readAt_window]; rfl)

/-- Layer 1's output, time step by time step. -/
theorem rows_first :
    kernelRun.sl.r_16 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = stepRow (Wts.layer (⟨x1, x2, x3, x4, x5, x6, x7, x8, x9, x10, x11, x12, x13, x14, x15, x16, x17⟩ : Wts F) x0) 0 ∧
    kernelRun.sl.r_17 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = stepRow (Wts.layer (⟨x1, x2, x3, x4, x5, x6, x7, x8, x9, x10, x11, x12, x13, x14, x15, x16, x17⟩ : Wts F) x0) 1 ∧
    kernelRun.sl.r_18 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = stepRow (Wts.layer (⟨x1, x2, x3, x4, x5, x6, x7, x8, x9, x10, x11, x12, x13, x14, x15, x16, x17⟩ : Wts F) x0) 2 ∧
    kernelRun.sl.r_19 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = stepRow (Wts.layer (⟨x1, x2, x3, x4, x5, x6, x7, x8, x9, x10, x11, x12, x13, x14, x15, x16, x17⟩ : Wts F) x0) 3 ∧
    kernelRun.sl.r_20 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = stepRow (Wts.layer (⟨x1, x2, x3, x4, x5, x6, x7, x8, x9, x10, x11, x12, x13, x14, x15, x16, x17⟩ : Wts F) x0) 4 ∧
    kernelRun.sl.r_21 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = stepRow (Wts.layer (⟨x1, x2, x3, x4, x5, x6, x7, x8, x9, x10, x11, x12, x13, x14, x15, x16, x17⟩ : Wts F) x0) 5 ∧
    kernelRun.sl.r_22 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = stepRow (Wts.layer (⟨x1, x2, x3, x4, x5, x6, x7, x8, x9, x10, x11, x12, x13, x14, x15, x16, x17⟩ : Wts F) x0) 6 ∧
    kernelRun.sl.r_23 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = stepRow (Wts.layer (⟨x1, x2, x3, x4, x5, x6, x7, x8, x9, x10, x11, x12, x13, x14, x15, x16, x17⟩ : Wts F) x0) 7 ∧
    kernelRun.sl.r_24 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = stepRow (Wts.layer (⟨x1, x2, x3, x4, x5, x6, x7, x8, x9, x10, x11, x12, x13, x14, x15, x16, x17⟩ : Wts F) x0) 8 ∧
    kernelRun.sl.r_25 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = stepRow (Wts.layer (⟨x1, x2, x3, x4, x5, x6, x7, x8, x9, x10, x11, x12, x13, x14, x15, x16, x17⟩ : Wts F) x0) 9 := by
  refine ⟨?_, ?_, ?_, ?_, ?_, ?_, ?_, ?_, ?_, ?_⟩ <;> (simp only [kernelRun.sl.r_16, kernelRun.sl.r_17, kernelRun.sl.r_18, kernelRun.sl.r_19, kernelRun.sl.r_20, kernelRun.sl.r_21, kernelRun.sl.r_22, kernelRun.sl.r_23, kernelRun.sl.r_24, kernelRun.sl.r_25, x2_first arg1 arg2 arg3 arg8 arg9 arg10 arg11 arg12 arg13 arg14 arg15 arg16 arg17 arg18 arg24 arg25 arg26 arg27 arg28 harg28 x0 x1 x2 x3 x4 x5 x6 x7 x8 x9 x10 x11 x12 x13 x14 x15 x16 x17, ↓View.readAt_rep_full, ↓readAt_window]; rfl)

/-- Layer 2's padded input, cut into the frames. -/
theorem padded_second :
    kernelRun.sl.r_26 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = frames (flat (Wts.layer (⟨x1, x2, x3, x4, x5, x6, x7, x8, x9, x10, x11, x12, x13, x14, x15, x16, x17⟩ : Wts F) x0)) ∧
    kernelRun.sl.r_27 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = frames16 (flat (Wts.layer (⟨x1, x2, x3, x4, x5, x6, x7, x8, x9, x10, x11, x12, x13, x14, x15, x16, x17⟩ : Wts F) x0)) := by
  refine ⟨?_, ?_⟩ <;> (simp only [kernelRun.sl.r_26, kernelRun.sl.r_27, layer_first, rows_first, ↓View.readAt_rep_full, ↓readAt_window]; rfl)

/-- Layer 2's pooled frames and projections. -/
theorem xseq_second :
    kernelRun.sl.r_29 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = Wts.xseq (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0)) ∧
    kernelRun.sl.r_30 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = Wts.xm (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0)) ∧
    kernelRun.sl.r_31 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = Wts.z (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0)) := by
  refine ⟨?_, ?_, ?_⟩ <;> (simp only [kernelRun.sl.r_28, kernelRun.sl.r_29, kernelRun.sl.r_30, kernelRun.sl.r_31, padded_second, ↓View.readAt_rep_full, ↓readAt_window]; rfl)

/-- Layer 2's convolved input. -/
theorem xma_second :
    kernelRun.sl.r_32 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = Wts.xma (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0)) ∧
    kernelRun.sl.r_33 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = Wts.xmaR (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0)) := by
  refine ⟨?_, ?_⟩ <;> (simp only [kernelRun.sl.r, kernelRun.sl.r_1, kernelRun.sl.r_32, kernelRun.sl.r_33, xseq_second, ↓View.readAt_rep_full, ↓readAt_window]; rfl)

/-- Layer 2's step sizes before the softplus. -/
theorem pre_second :
    kernelRun.sl.r_34 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = Wts.dtPre (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0)) ∧
    kernelRun.sl.r_35 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = Wts.dtPos (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0)) := by
  refine ⟨?_, ?_⟩ <;> (simp only [kernelRun.sl.r_1, kernelRun.sl.r_34, kernelRun.sl.r_35, xseq_second, ↓View.readAt_rep_full, ↓readAt_window]; rfl)

/-- Layer 2's recurrence. -/
theorem ys_second : kernelRun.sl.v379 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = Wts.ys (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0)) := by
  rw [kernelRun.sl.v379, View.readAt_full, Memref.IsWhole.read_unread, kernelRun.sl.HL0_2, kernelRun.sl.HL1_2, kernelRun.sl.HL2_2, kernelRun.sl.HL3_2, View.read_writes_full,
    View.read_writes_full, View.read_writes_full, View.read_writes_full]
  simp only [kernelRun.sl.r, xma_second, pre_second, ↓View.readAt_rep_full, ↓readAt_window]
  rfl

/-- Layer 2's block output. -/
theorem x2_second : kernelRun.sl.r_36 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = Wts.x2 (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0)) := by
  (simp only [kernelRun.sl.r_2, kernelRun.sl.r_36, xseq_second, xma_second, ys_second, ↓View.readAt_rep_full, ↓readAt_window]; rfl)

/-- Layer 2's output. -/
theorem conv2_second : kernelRun.sl.r_38 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0))) := by
  (simp only [kernelRun.sl.r_2, kernelRun.sl.r_36, kernelRun.sl.r_37, kernelRun.sl.r_38, xseq_second, xma_second, ys_second, ↓View.readAt_rep_full, ↓readAt_window]; rfl)

/-- Layer 2's output, time step by time step. -/
theorem rows_second :
    kernelRun.sl.r_39 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = stepRow (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0))) 0 ∧
    kernelRun.sl.r_40 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = stepRow (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0))) 1 ∧
    kernelRun.sl.r_41 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = stepRow (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0))) 2 ∧
    kernelRun.sl.r_42 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = stepRow (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0))) 3 ∧
    kernelRun.sl.r_43 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = stepRow (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0))) 4 ∧
    kernelRun.sl.r_44 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = stepRow (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0))) 5 ∧
    kernelRun.sl.r_45 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = stepRow (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0))) 6 ∧
    kernelRun.sl.r_46 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = stepRow (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0))) 7 ∧
    kernelRun.sl.r_47 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = stepRow (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0))) 8 ∧
    kernelRun.sl.r_48 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = stepRow (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0))) 9 ∧
    kernelRun.sl.r_49 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = stepRow (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0))) 10 ∧
    kernelRun.sl.r_50 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = stepRow (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0))) 11 ∧
    kernelRun.sl.r_51 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = stepRow (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0))) 12 ∧
    kernelRun.sl.r_52 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = stepRow (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0))) 13 ∧
    kernelRun.sl.r_53 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = stepRow (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0))) 14 ∧
    kernelRun.sl.r_54 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = stepRow (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0))) 15 ∧
    kernelRun.sl.r_55 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = stepRow (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0))) 16 ∧
    kernelRun.sl.r_56 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = stepRow (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0))) 17 ∧
    kernelRun.sl.r_57 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = stepRow (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0))) 18 ∧
    kernelRun.sl.r_58 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = stepRow (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0))) 19 ∧
    kernelRun.sl.r_59 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = stepRow (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0))) 20 ∧
    kernelRun.sl.r_60 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = stepRow (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0))) 21 ∧
    kernelRun.sl.r_61 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = stepRow (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0))) 22 ∧
    kernelRun.sl.r_62 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = stepRow (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0))) 23 ∧
    kernelRun.sl.r_63 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = stepRow (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0))) 24 ∧
    kernelRun.sl.r_64 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = stepRow (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0))) 25 ∧
    kernelRun.sl.r_65 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = stepRow (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0))) 26 ∧
    kernelRun.sl.r_66 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = stepRow (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0))) 27 ∧
    kernelRun.sl.r_67 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = stepRow (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0))) 28 := by
  refine ⟨?_, ?_, ?_, ?_, ?_, ?_, ?_, ?_, ?_, ?_, ?_, ?_, ?_, ?_, ?_, ?_, ?_, ?_, ?_, ?_, ?_, ?_, ?_, ?_, ?_, ?_, ?_, ?_, ?_⟩ <;> (simp only [kernelRun.sl.r_2, kernelRun.sl.r_36, kernelRun.sl.r_37, kernelRun.sl.r_39, kernelRun.sl.r_40, kernelRun.sl.r_41, kernelRun.sl.r_42, kernelRun.sl.r_43, kernelRun.sl.r_44, kernelRun.sl.r_45, kernelRun.sl.r_46, kernelRun.sl.r_47, kernelRun.sl.r_48, kernelRun.sl.r_49, kernelRun.sl.r_50, kernelRun.sl.r_51, kernelRun.sl.r_52, kernelRun.sl.r_53, kernelRun.sl.r_54, kernelRun.sl.r_55, kernelRun.sl.r_56, kernelRun.sl.r_57, kernelRun.sl.r_58, kernelRun.sl.r_59, kernelRun.sl.r_60, kernelRun.sl.r_61, kernelRun.sl.r_62, kernelRun.sl.r_63, kernelRun.sl.r_64, kernelRun.sl.r_65, kernelRun.sl.r_66, kernelRun.sl.r_67, xseq_second, xma_second, ys_second, ↓View.readAt_rep_full, ↓readAt_window]; rfl)

/-- Layer 3's frames before pooling. -/
theorem relu_third :
    kernelRun.sl.r_68 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = Wts.evR (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0)))) ∧
    kernelRun.sl.r_69 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = Wts.odR (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0)))) := by
  refine ⟨?_, ?_⟩ <;> (simp only [kernelRun.sl.r_68, kernelRun.sl.r_69, conv2_second, rows_second, ↓View.readAt_rep_full, ↓readAt_window]; rfl)

/-- Layer 3's pooled frames and the gate. -/
theorem xseq_third :
    kernelRun.sl.r_70 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = Wts.xseq (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0)))) ∧
    kernelRun.sl.r_71 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = Wts.z (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0)))) := by
  refine ⟨?_, ?_⟩ <;> (simp only [kernelRun.sl.r_70, kernelRun.sl.r_71, relu_third, ↓View.readAt_rep_full, ↓readAt_window]; rfl)

/-- Layer 3's depthwise convolution. -/
theorem conv_third :
    kernelRun.sl.r_72 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = Wts.conv (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0)))) ∧
    kernelRun.sl.r_73 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = logistic (Wts.conv (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0))))) := by
  refine ⟨?_, ?_⟩ <;> (simp only [kernelRun.sl.r_1, kernelRun.sl.r_72, kernelRun.sl.r_73, relu_third, ↓View.readAt_rep_full, ↓readAt_window]; rfl)

/-- Layer 3's convolved input. -/
theorem xma_third :
    kernelRun.sl.r_74 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = Wts.xma (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0)))) ∧
    kernelRun.sl.r_75 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = Wts.xmaR (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0)))) := by
  refine ⟨?_, ?_⟩ <;> (simp only [kernelRun.sl.r_74, kernelRun.sl.r_75, conv_third, ↓View.readAt_rep_full, ↓readAt_window]; rfl)

/-- Layer 3's recurrence. -/
theorem ys_third : kernelRun.sl.v615 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = Wts.ys (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0)))) := by
  rw [kernelRun.sl.v615, View.readAt_full, Memref.IsWhole.read_unread, kernelRun.sl.HL5_3, kernelRun.sl.HL6_3, View.read_writes_full,
    View.read_writes_full, View.read_writes_full, View.read_writes_full]
  simp only [kernelRun.sl.r, kernelRun.sl.r_76, xma_third, conv_third, ↓View.readAt_rep_full, ↓readAt_window]
  rfl

/-- Layer 3's block output. -/
theorem x2_third : kernelRun.sl.r_77 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = Wts.x2 (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0)))) := by
  (simp only [kernelRun.sl.r_2, kernelRun.sl.r_77, xseq_third, xma_third, ys_third, ↓View.readAt_rep_full, ↓readAt_window]; rfl)

/-- Layer 3's output. -/
theorem layer_third : kernelRun.sl.r_81 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0))))) := by
  (simp only [kernelRun.sl.r_2, kernelRun.sl.r_77, kernelRun.sl.r_78, kernelRun.sl.r_79, kernelRun.sl.r_80, kernelRun.sl.r_81, xseq_third, xma_third, ys_third, ↓View.readAt_rep_full, ↓readAt_window]; rfl)

/-- Layer 3's output, time step by time step. -/
theorem rows_third :
    kernelRun.sl.r_82 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = stepRow (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0))))) 0 ∧
    kernelRun.sl.r_83 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = stepRow (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0))))) 1 ∧
    kernelRun.sl.r_84 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = stepRow (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0))))) 2 ∧
    kernelRun.sl.r_85 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = stepRow (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0))))) 3 ∧
    kernelRun.sl.r_86 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = stepRow (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0))))) 4 ∧
    kernelRun.sl.r_87 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = stepRow (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0))))) 5 ∧
    kernelRun.sl.r_88 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = stepRow (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0))))) 6 ∧
    kernelRun.sl.r_89 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = stepRow (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0))))) 7 ∧
    kernelRun.sl.r_90 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = stepRow (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0))))) 8 ∧
    kernelRun.sl.r_91 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = stepRow (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0))))) 9 ∧
    kernelRun.sl.r_92 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = stepRow (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0))))) 10 ∧
    kernelRun.sl.r_93 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = stepRow (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0))))) 11 ∧
    kernelRun.sl.r_94 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = stepRow (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0))))) 12 ∧
    kernelRun.sl.r_95 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = stepRow (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0))))) 13 ∧
    kernelRun.sl.r_96 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = stepRow (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0))))) 14 ∧
    kernelRun.sl.r_97 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = stepRow (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0))))) 15 ∧
    kernelRun.sl.r_98 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = stepRow (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0))))) 16 ∧
    kernelRun.sl.r_99 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = stepRow (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0))))) 17 := by
  refine ⟨?_, ?_, ?_, ?_, ?_, ?_, ?_, ?_, ?_, ?_, ?_, ?_, ?_, ?_, ?_, ?_, ?_, ?_⟩ <;> (simp only [kernelRun.sl.r_2, kernelRun.sl.r_77, kernelRun.sl.r_78, kernelRun.sl.r_79, kernelRun.sl.r_80, kernelRun.sl.r_82, kernelRun.sl.r_83, kernelRun.sl.r_84, kernelRun.sl.r_85, kernelRun.sl.r_86, kernelRun.sl.r_87, kernelRun.sl.r_88, kernelRun.sl.r_89, kernelRun.sl.r_90, kernelRun.sl.r_91, kernelRun.sl.r_92, kernelRun.sl.r_93, kernelRun.sl.r_94, kernelRun.sl.r_95, kernelRun.sl.r_96, kernelRun.sl.r_97, kernelRun.sl.r_98, kernelRun.sl.r_99, xseq_third, xma_third, ys_third, ↓View.readAt_rep_full, ↓readAt_window]; rfl)

/-- Layer 4's frame convolution. -/
theorem frames_fourth :
    kernelRun.sl.r_101 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = Wts.ev (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0)))))) ∧
    kernelRun.sl.r_102 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = Wts.odHead (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0)))))) ∧
    kernelRun.sl.r_103 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = frames16Tail (flat (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0)))))) := by
  refine ⟨?_, ?_, ?_⟩ <;> (simp only [kernelRun.sl.r_101, kernelRun.sl.r_102, kernelRun.sl.r_103, layer_third, rows_third, ↓View.readAt_rep_full, ↓readAt_window]; rfl)

/-- Layer 4's pooled frames and projections. -/
theorem xseq_fourth :
    kernelRun.sl.r_104 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = Wts.xseq (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0)))))) ∧
    kernelRun.sl.r_105 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = Wts.xm (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0)))))) ∧
    kernelRun.sl.r_106 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = Wts.z (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0)))))) := by
  refine ⟨?_, ?_, ?_⟩ <;> (simp only [kernelRun.sl.r_100, kernelRun.sl.r_104, kernelRun.sl.r_105, kernelRun.sl.r_106, frames_fourth, ↓View.readAt_rep_full, ↓readAt_window]; rfl)

/-- The first two taps of layer 4's depthwise convolution. -/
theorem taps_fourth :
    kernelRun.sl.r_107 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = Wts.tapThree (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0)))))) ∧
    kernelRun.sl.r_108 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = Wts.tapTwo (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0)))))) := by
  refine ⟨?_, ?_⟩ <;> (simp only [kernelRun.sl.r_1, kernelRun.sl.r_100, kernelRun.sl.r_107, kernelRun.sl.r_108, frames_fourth, ↓View.readAt_rep_full, ↓readAt_window]; rfl)

/-- Layer 4's convolved input. -/
theorem xma_fourth :
    kernelRun.sl.r_109 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = Wts.xma (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0)))))) ∧
    kernelRun.sl.r_110 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = Wts.xmaR (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0)))))) := by
  refine ⟨?_, ?_⟩ <;> (simp only [kernelRun.sl.r_109, kernelRun.sl.r_110, xseq_fourth, taps_fourth, ↓View.readAt_rep_full, ↓readAt_window]; rfl)

/-- Layer 4's step sizes. -/
theorem delta_fourth :
    kernelRun.sl.r_111 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = Wts.deltaRaw (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0)))))) ∧
    kernelRun.sl.r_112 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = Wts.uRaw (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0)))))) := by
  refine ⟨?_, ?_⟩ <;> (simp only [kernelRun.sl.r_111, kernelRun.sl.r_112, xseq_fourth, taps_fourth, ↓View.readAt_rep_full, ↓readAt_window]; rfl)

/-- Layer 4's recurrence. -/
theorem ys_fourth : kernelRun.sl.v851 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = Wts.ys (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0)))))) := by
  rw [kernelRun.sl.v851, View.readAt_full, Memref.IsWhole.read_unread, View.read_writes_full,
    View.read_writes_full, View.read_writes_full, View.read_writes_full]
  simp only [kernelRun.sl.r, xma_fourth, delta_fourth, ↓View.readAt_rep_full, ↓readAt_window]
  rfl

/-- Layer 4's gated block output. -/
theorem gated_fourth : kernelRun.sl.r_113 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = Wts.gated (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0)))))) := by
  (simp only [kernelRun.sl.r_2, kernelRun.sl.r_113, xseq_fourth, xma_fourth, ys_fourth, ↓View.readAt_rep_full, ↓readAt_window]; rfl)

/-- The last layer's centred rows and their sums of squares. -/
theorem centred_last :
    kernelRun.sl.r_114 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = centred (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0))))))) ∧
    kernelRun.sl.r_115 arg1 arg2 arg3 arg4 arg5 arg6 arg7 arg8 arg9 arg10 arg11 arg12 arg13 arg14 arg15 arg16 arg17 arg18 arg24 arg25 arg26 arg27 arg28 harg28 x0 x1 x2 x3 x4 x5 x6 x7 x8 x9 x10 x11 x12 x13 x14 x15 x16 x17 = sqSum (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) (flat (Wts.layer (⟨x1, x2, x3, x4, x5, x6, x7, x8, x9, x10, x11, x12, x13, x14, x15, x16, x17⟩ : Wts F) x0))))))) := by
  refine ⟨?_, ?_⟩ <;> (simp only [kernelRun.sl.r_114, kernelRun.sl.r_115, xseq_fourth, gated_fourth, ↓View.readAt_rep_full, ↓readAt_window]; rfl)

/-- What the body stores. -/
theorem stored_eq : kernelRun.sl.r_116 arg1 arg2 arg3 arg4 arg5 arg6 arg7 arg8 arg9 arg10 arg11 arg12 arg13 arg14 arg15 arg16 arg17 arg18 arg19 arg20 arg21 arg22 arg24 arg25 arg26 arg27 arg28 harg28 x0 x1 x2 x3 x4 x5 x6 x7 x8 x9 x10 x11 x12 x13 x14 x15 x16 x17 x18 x19 x20 x21 = OUT (⟨x1, x2, x3, x4, x5, x6, x7, x8, x9, x10, x11, x12, x13, x14, x15, x16, x17⟩ : Wts F) x0 x18 x19 x20 x21 := by
  (simp only [kernelRun.sl.r_116, centred_last, ↓View.readAt_rep_full, ↓readAt_window]; rfl)

end

end Cert.KernelIdeal.Body
-- ==== Proof.Pipe.lean ====
/- The pipeline: every block of the output is the head of the four layers of its own batch rows, and the arguments end unchanged. -/
module

public import proofs.«01_k».proof.Proof.BodyVal
public import Idealize.ShloMosaic.Lib.Claim
public import Idealize.ShloMosaic.Lib.Pipeline.ValueKit

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body's triple, with what it stores named by the four layers and the head. -/
theorem body_stores (c : Dev nD) (i : grid0.Coords) (arg1 : Memref sig .tc .vmem S8x32768 .f32) (harg1 : arg1.IsWhole) (arg2 : Memref sig .tc .vmem S64x32 .f32) (harg2 : arg2.IsWhole) (arg3 : Memref sig .tc .vmem S1x32 .f32) (harg3 : arg3.IsWhole) (arg4 : Memref sig .tc .vmem S32x32 .f32) (harg4 : arg4.IsWhole) (arg5 : Memref sig .tc .vmem S32x32 .f32) (harg5 : arg5.IsWhole) (arg6 : Memref sig .tc .vmem S32x32 .f32) (harg6 : arg6.IsWhole) (arg7 : Memref sig .tc .vmem S32x1 .f32) (harg7 : arg7.IsWhole) (arg8 : Memref sig .tc .vmem S1024x4096 .bf16) (harg8 : arg8.IsWhole) (arg9 : Memref sig .tc .vmem S4x2048 .f32) (harg9 : arg9.IsWhole) (arg10 : Memref sig .tc .vmem S1x2048 .f32) (harg10 : arg10.IsWhole) (arg11 : Memref sig .tc .vmem S2048x64 .f32) (harg11 : arg11.IsWhole) (arg12 : Memref sig .tc .vmem S2048x16 .f32) (harg12 : arg12.IsWhole) (arg13 : Memref sig .tc .vmem S2048x16 .f32) (harg13 : arg13.IsWhole) (arg14 : Memref sig .tc .vmem S64x2048 .f32) (harg14 : arg14.IsWhole) (arg15 : Memref sig .tc .vmem S1x2048 .f32) (harg15 : arg15.IsWhole) (arg16 : Memref sig .tc .vmem S16x2048 .f32) (harg16 : arg16.IsWhole) (arg17 : Memref sig .tc .vmem S1x2048 .f32) (harg17 : arg17.IsWhole) (arg18 : Memref sig .tc .vmem S2048x1024 .bf16) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1024x128 .f32) (harg21 : arg21.IsWhole) (arg22 : Memref sig .tc .vmem S1x128 .f32) (harg22 : arg22.IsWhole) (arg23 : Memref sig .tc .vmem S8x128 .f32) (harg23 : arg23.IsWhole) (arg24 : Memref sig .tc .vmem S32x8x2048 .f32) (harg24 : arg24.IsWhole) (arg25 : Memref sig .tc .vmem S32x8x2048 .f32) (harg25 : arg25.IsWhole) (arg26 : Memref sig .tc .vmem S32x8x16 .f32) (harg26 : arg26.IsWhole) (arg27 : Memref sig .tc .vmem S32x8x16 .f32) (harg27 : arg27.IsWhole) (arg28 : Memref sig .tc .vmem S32x8x2048 .f32) (harg28 : arg28.IsWhole)
    (x0 : Vec F S8x32768 .f32) (x1 : Vec F S64x32 .f32) (x2 : Vec F S1x32 .f32) (x3 : Vec F S32x32 .f32) (x4 : Vec F S32x32 .f32) (x5 : Vec F S32x32 .f32) (x6 : Vec F S32x1 .f32) (x7 : Vec F S1024x4096 .bf16) (x8 : Vec F S4x2048 .f32) (x9 : Vec F S1x2048 .f32) (x10 : Vec F S2048x64 .f32) (x11 : Vec F S2048x16 .f32) (x12 : Vec F S2048x16 .f32) (x13 : Vec F S64x2048 .f32) (x14 : Vec F S1x2048 .f32) (x15 : Vec F S16x2048 .f32) (x16 : Vec F S1x2048 .f32) (x17 : Vec F S2048x1024 .bf16) (x18 : Vec F S1x1024 .f32) (x19 : Vec F S1x1024 .f32) (x20 : Vec F S1024x128 .f32) (x21 : Vec F S1x128 .f32) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare (OUT (⟨x1, x2, x3, x4, x5, x6, x7, x8, x9, x10, x11, x12, x13, x14, x15, x16, x17⟩ : Wts F) x0 x18 x19 x20 x21) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d)) -∗ K ⟨⟩))
          ⊢ wp frame (wpE (defs₀ (F := F)) Variants.none c none) E (cc0__model_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K := by
  have h := (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21).2 E K
  rw [show (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21).1 = (OUT (⟨x1, x2, x3, x4, x5, x6, x7, x8, x9, x10, x11, x12, x13, x14, x15, x16, x17⟩ : Wts F) x0 x18 x19 x20 x21) from stored_eq arg1 arg2 arg3 arg4 arg5 arg6 arg7 arg8 arg9 arg10 arg11 arg12 arg13 arg14 arg15 arg16 arg17 arg18 arg19 arg20 arg21 arg22 arg24 arg25 arg26 arg27 arg28 harg28 x0 x1 x2 x3 x4 x5 x6 x7 x8 x9 x10 x11 x12 x13 x14 x15 x16 x17 x18 x19 x20 x21] at h
  exact h

variable (m : (ℓ : Loc nD τ sig) → Buf (Elt F) ℓ) (ρ : Dev nD → PrngReg)

/-- The weights as the blocks at a grid point hold them. -/
def wtsAt (c : Dev nD) (t : Fin cfg0.N) : Wts F := ⟨iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t, iblk m c 17 t⟩

/-- What a grid point leaves in the output block: the head of the four layers of its batch rows. -/
def blockOut (c : Dev nD) (t : Fin cfg0.N) : Vec F S8x128 .f32 := OUT (wtsAt m c t) (iblk m c 0 t) (iblk m c 18 t) (iblk m c 19 t) (iblk m c 20 t) (iblk m c 21 t)

/-- The launch's data: each array as the region finds it, each input block left in place, the output block as stored. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => blockOut m c t
    | ⟨_ + 23, h⟩ => absurd h (Nat.not_lt.2 (Nat.le_add_left _ _))
  Φ _ := Pipeline.ΦA spec0 c
  q _ := fullShare
  owed _ := 0

/-- The data's arrays are the region's. -/
theorem arrays_eq (c : Dev nD) (w : Fin cfg0.W) : (dats m 0 c).A w = V m c (Pipeline.arrRef spec0 w) := by
  dsimp only [dats]

theorem left_0 (c : Dev nD) (t : Fin cfg0.N) : (dats m 0 c).after 0 t = iblk m c 0 t := by dsimp only [dats]
theorem found_0 (c : Dev nD) (t : Fin cfg0.N) (d) : (dats m 0 c).before 0 t d = iblk m c 0 t :=
  before0_0_of m (dats m 0 c) (arrays_eq m c 0) (left_0 m c) t d
theorem left_1 (c : Dev nD) (t : Fin cfg0.N) : (dats m 0 c).after 1 t = iblk m c 1 t := by dsimp only [dats]
theorem found_1 (c : Dev nD) (t : Fin cfg0.N) (d) : (dats m 0 c).before 1 t d = iblk m c 1 t :=
  before0_1_of m (dats m 0 c) (arrays_eq m c 1) (left_1 m c) t d
theorem left_2 (c : Dev nD) (t : Fin cfg0.N) : (dats m 0 c).after 2 t = iblk m c 2 t := by dsimp only [dats]
theorem found_2 (c : Dev nD) (t : Fin cfg0.N) (d) : (dats m 0 c).before 2 t d = iblk m c 2 t :=
  before0_2_of m (dats m 0 c) (arrays_eq m c 2) (left_2 m c) t d
theorem left_3 (c : Dev nD) (t : Fin cfg0.N) : (dats m 0 c).after 3 t = iblk m c 3 t := by dsimp only [dats]
theorem found_3 (c : Dev nD) (t : Fin cfg0.N) (d) : (dats m 0 c).before 3 t d = iblk m c 3 t :=
  before0_3_of m (dats m 0 c) (arrays_eq m c 3) (left_3 m c) t d
theorem left_4 (c : Dev nD) (t : Fin cfg0.N) : (dats m 0 c).after 4 t = iblk m c 4 t := by dsimp only [dats]
theorem found_4 (c : Dev nD) (t : Fin cfg0.N) (d) : (dats m 0 c).before 4 t d = iblk m c 4 t :=
  before0_4_of m (dats m 0 c) (arrays_eq m c 4) (left_4 m c) t d
theorem left_5 (c : Dev nD) (t : Fin cfg0.N) : (dats m 0 c).after 5 t = iblk m c 5 t := by dsimp only [dats]
theorem found_5 (c : Dev nD) (t : Fin cfg0.N) (d) : (dats m 0 c).before 5 t d = iblk m c 5 t :=
  before0_5_of m (dats m 0 c) (arrays_eq m c 5) (left_5 m c) t d
theorem left_6 (c : Dev nD) (t : Fin cfg0.N) : (dats m 0 c).after 6 t = iblk m c 6 t := by dsimp only [dats]
theorem found_6 (c : Dev nD) (t : Fin cfg0.N) (d) : (dats m 0 c).before 6 t d = iblk m c 6 t :=
  before0_6_of m (dats m 0 c) (arrays_eq m c 6) (left_6 m c) t d
theorem left_7 (c : Dev nD) (t : Fin cfg0.N) : (dats m 0 c).after 7 t = iblk m c 7 t := by dsimp only [dats]
theorem found_7 (c : Dev nD) (t : Fin cfg0.N) (d) : (dats m 0 c).before 7 t d = iblk m c 7 t :=
  before0_7_of m (dats m 0 c) (arrays_eq m c 7) (left_7 m c) t d
theorem left_8 (c : Dev nD) (t : Fin cfg0.N) : (dats m 0 c).after 8 t = iblk m c 8 t := by dsimp only [dats]
theorem found_8 (c : Dev nD) (t : Fin cfg0.N) (d) : (dats m 0 c).before 8 t d = iblk m c 8 t :=
  before0_8_of m (dats m 0 c) (arrays_eq m c 8) (left_8 m c) t d
theorem left_9 (c : Dev nD) (t : Fin cfg0.N) : (dats m 0 c).after 9 t = iblk m c 9 t := by dsimp only [dats]
theorem found_9 (c : Dev nD) (t : Fin cfg0.N) (d) : (dats m 0 c).before 9 t d = iblk m c 9 t :=
  before0_9_of m (dats m 0 c) (arrays_eq m c 9) (left_9 m c) t d
theorem left_10 (c : Dev nD) (t : Fin cfg0.N) : (dats m 0 c).after 10 t = iblk m c 10 t := by dsimp only [dats]
theorem found_10 (c : Dev nD) (t : Fin cfg0.N) (d) : (dats m 0 c).before 10 t d = iblk m c 10 t :=
  before0_10_of m (dats m 0 c) (arrays_eq m c 10) (left_10 m c) t d
theorem left_11 (c : Dev nD) (t : Fin cfg0.N) : (dats m 0 c).after 11 t = iblk m c 11 t := by dsimp only [dats]
theorem found_11 (c : Dev nD) (t : Fin cfg0.N) (d) : (dats m 0 c).before 11 t d = iblk m c 11 t :=
  before0_11_of m (dats m 0 c) (arrays_eq m c 11) (left_11 m c) t d
theorem left_12 (c : Dev nD) (t : Fin cfg0.N) : (dats m 0 c).after 12 t = iblk m c 12 t := by dsimp only [dats]
theorem found_12 (c : Dev nD) (t : Fin cfg0.N) (d) : (dats m 0 c).before 12 t d = iblk m c 12 t :=
  before0_12_of m (dats m 0 c) (arrays_eq m c 12) (left_12 m c) t d
theorem left_13 (c : Dev nD) (t : Fin cfg0.N) : (dats m 0 c).after 13 t = iblk m c 13 t := by dsimp only [dats]
theorem found_13 (c : Dev nD) (t : Fin cfg0.N) (d) : (dats m 0 c).before 13 t d = iblk m c 13 t :=
  before0_13_of m (dats m 0 c) (arrays_eq m c 13) (left_13 m c) t d
theorem left_14 (c : Dev nD) (t : Fin cfg0.N) : (dats m 0 c).after 14 t = iblk m c 14 t := by dsimp only [dats]
theorem found_14 (c : Dev nD) (t : Fin cfg0.N) (d) : (dats m 0 c).before 14 t d = iblk m c 14 t :=
  before0_14_of m (dats m 0 c) (arrays_eq m c 14) (left_14 m c) t d
theorem left_15 (c : Dev nD) (t : Fin cfg0.N) : (dats m 0 c).after 15 t = iblk m c 15 t := by dsimp only [dats]
theorem found_15 (c : Dev nD) (t : Fin cfg0.N) (d) : (dats m 0 c).before 15 t d = iblk m c 15 t :=
  before0_15_of m (dats m 0 c) (arrays_eq m c 15) (left_15 m c) t d
theorem left_16 (c : Dev nD) (t : Fin cfg0.N) : (dats m 0 c).after 16 t = iblk m c 16 t := by dsimp only [dats]
theorem found_16 (c : Dev nD) (t : Fin cfg0.N) (d) : (dats m 0 c).before 16 t d = iblk m c 16 t :=
  before0_16_of m (dats m 0 c) (arrays_eq m c 16) (left_16 m c) t d
theorem left_17 (c : Dev nD) (t : Fin cfg0.N) : (dats m 0 c).after 17 t = iblk m c 17 t := by dsimp only [dats]
theorem found_17 (c : Dev nD) (t : Fin cfg0.N) (d) : (dats m 0 c).before 17 t d = iblk m c 17 t :=
  before0_17_of m (dats m 0 c) (arrays_eq m c 17) (left_17 m c) t d
theorem left_18 (c : Dev nD) (t : Fin cfg0.N) : (dats m 0 c).after 18 t = iblk m c 18 t := by dsimp only [dats]
theorem found_18 (c : Dev nD) (t : Fin cfg0.N) (d) : (dats m 0 c).before 18 t d = iblk m c 18 t :=
  before0_18_of m (dats m 0 c) (arrays_eq m c 18) (left_18 m c) t d
theorem left_19 (c : Dev nD) (t : Fin cfg0.N) : (dats m 0 c).after 19 t = iblk m c 19 t := by dsimp only [dats]
theorem found_19 (c : Dev nD) (t : Fin cfg0.N) (d) : (dats m 0 c).before 19 t d = iblk m c 19 t :=
  before0_19_of m (dats m 0 c) (arrays_eq m c 19) (left_19 m c) t d
theorem left_20 (c : Dev nD) (t : Fin cfg0.N) : (dats m 0 c).after 20 t = iblk m c 20 t := by dsimp only [dats]
theorem found_20 (c : Dev nD) (t : Fin cfg0.N) (d) : (dats m 0 c).before 20 t d = iblk m c 20 t :=
  before0_20_of m (dats m 0 c) (arrays_eq m c 20) (left_20 m c) t d
theorem left_21 (c : Dev nD) (t : Fin cfg0.N) : (dats m 0 c).after 21 t = iblk m c 21 t := by dsimp only [dats]
theorem found_21 (c : Dev nD) (t : Fin cfg0.N) (d) : (dats m 0 c).before 21 t d = iblk m c 21 t :=
  before0_21_of m (dats m 0 c) (arrays_eq m c 21) (left_21 m c) t d
theorem left_22 (c : Dev nD) (t : Fin cfg0.N) : (dats m 0 c).after 22 t = blockOut m c t := by dsimp only [dats]

/-- The launch's invariant: the scratch buffers at some contents, and the generator's register. -/
theorem invariant_eq (c : Dev nD) :
    (Pipeline.ΦA spec0 c : sProp 𝕄)
      = iprop(iprop((∃ d, owns (c : Thread nD τ) (Memref.whole cc0_scratch0 : Memref sig .tc .vmem S32x8x2048 .f32) fullShare d) ∗ (∃ d, owns (c : Thread nD τ) (Memref.whole cc0_scratch1 : Memref sig .tc .vmem S32x8x2048 .f32) fullShare d) ∗ (∃ d, owns (c : Thread nD τ) (Memref.whole cc0_scratch2 : Memref sig .tc .vmem S32x8x16 .f32) fullShare d) ∗ (∃ d, owns (c : Thread nD τ) (Memref.whole cc0_scratch3 : Memref sig .tc .vmem S32x8x16 .f32) fullShare d) ∗ (∃ d, owns (c : Thread nD τ) (Memref.whole cc0_scratch4 : Memref sig .tc .vmem S32x8x2048 .f32) fullShare d)) ∗ (∃ r, prngReg c r)) := by
  unfold Pipeline.ΦA; rw [scopedRest0_eq]; simp only [owns_whole]; try rfl

/-- What the body is called with at a grid point. -/
def atEntry (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0) : Memref sig .tc .vmem S8x32768 .f32) fullShare ((dats m 0 c).before 0 t d))
    ∗ (∃ d, owns (c : Thread nD τ) (win0_1.stage (cfg0.slots t 1) : Memref sig .tc .vmem S64x32 .f32) fullShare ((dats m 0 c).before 1 t d))
    ∗ (∃ d, owns (c : Thread nD τ) (win0_2.stage (cfg0.slots t 2) : Memref sig .tc .vmem S1x32 .f32) fullShare ((dats m 0 c).before 2 t d))
    ∗ (∃ d, owns (c : Thread nD τ) (win0_3.stage (cfg0.slots t 3) : Memref sig .tc .vmem S32x32 .f32) fullShare ((dats m 0 c).before 3 t d))
    ∗ (∃ d, owns (c : Thread nD τ) (win0_4.stage (cfg0.slots t 4) : Memref sig .tc .vmem S32x32 .f32) fullShare ((dats m 0 c).before 4 t d))
    ∗ (∃ d, owns (c : Thread nD τ) (win0_5.stage (cfg0.slots t 5) : Memref sig .tc .vmem S32x32 .f32) fullShare ((dats m 0 c).before 5 t d))
    ∗ (∃ d, owns (c : Thread nD τ) (win0_6.stage (cfg0.slots t 6) : Memref sig .tc .vmem S32x1 .f32) fullShare ((dats m 0 c).before 6 t d))
    ∗ (∃ d, owns (c : Thread nD τ) (win0_7.stage (cfg0.slots t 7) : Memref sig .tc .vmem S1024x4096 .bf16) fullShare ((dats m 0 c).before 7 t d))
    ∗ (∃ d, owns (c : Thread nD τ) (win0_8.stage (cfg0.slots t 8) : Memref sig .tc .vmem S4x2048 .f32) fullShare ((dats m 0 c).before 8 t d))
    ∗ (∃ d, owns (c : Thread nD τ) (win0_9.stage (cfg0.slots t 9) : Memref sig .tc .vmem S1x2048 .f32) fullShare ((dats m 0 c).before 9 t d))
    ∗ (∃ d, owns (c : Thread nD τ) (win0_10.stage (cfg0.slots t 10) : Memref sig .tc .vmem S2048x64 .f32) fullShare ((dats m 0 c).before 10 t d))
    ∗ (∃ d, owns (c : Thread nD τ) (win0_11.stage (cfg0.slots t 11) : Memref sig .tc .vmem S2048x16 .f32) fullShare ((dats m 0 c).before 11 t d))
    ∗ (∃ d, owns (c : Thread nD τ) (win0_12.stage (cfg0.slots t 12) : Memref sig .tc .vmem S2048x16 .f32) fullShare ((dats m 0 c).before 12 t d))
    ∗ (∃ d, owns (c : Thread nD τ) (win0_13.stage (cfg0.slots t 13) : Memref sig .tc .vmem S64x2048 .f32) fullShare ((dats m 0 c).before 13 t d))
    ∗ (∃ d, owns (c : Thread nD τ) (win0_14.stage (cfg0.slots t 14) : Memref sig .tc .vmem S1x2048 .f32) fullShare ((dats m 0 c).before 14 t d))
    ∗ (∃ d, owns (c : Thread nD τ) (win0_15.stage (cfg0.slots t 15) : Memref sig .tc .vmem S16x2048 .f32) fullShare ((dats m 0 c).before 15 t d))
    ∗ (∃ d, owns (c : Thread nD τ) (win0_16.stage (cfg0.slots t 16) : Memref sig .tc .vmem S1x2048 .f32) fullShare ((dats m 0 c).before 16 t d))
    ∗ (∃ d, owns (c : Thread nD τ) (win0_17.stage (cfg0.slots t 17) : Memref sig .tc .vmem S2048x1024 .bf16) fullShare ((dats m 0 c).before 17 t d))
    ∗ (∃ d, owns (c : Thread nD τ) (win0_18.stage (cfg0.slots t 18) : Memref sig .tc .vmem S1x1024 .f32) fullShare ((dats m 0 c).before 18 t d))
    ∗ (∃ d, owns (c : Thread nD τ) (win0_19.stage (cfg0.slots t 19) : Memref sig .tc .vmem S1x1024 .f32) fullShare ((dats m 0 c).before 19 t d))
    ∗ (∃ d, owns (c : Thread nD τ) (win0_20.stage (cfg0.slots t 20) : Memref sig .tc .vmem S1024x128 .f32) fullShare ((dats m 0 c).before 20 t d))
    ∗ (∃ d, owns (c : Thread nD τ) (win0_21.stage (cfg0.slots t 21) : Memref sig .tc .vmem S1x128 .f32) fullShare ((dats m 0 c).before 21 t d))
    ∗ (∃ d, owns (c : Thread nD τ) (win0_22.stage (cfg0.slots t 22) : Memref sig .tc .vmem S8x128 .f32) fullShare ((dats m 0 c).before 22 t d)))

/-- What the body returns at a grid point. -/
def atExit (c : Dev nD) (t : Fin cfg0.N) : sProp 𝕄 :=
  iprop((dats m 0 c).Φ t.succ ∗ (dats m 0 c).owesAt () t.succ
    ∗ owns (c : Thread nD τ) (win0_0.stage (cfg0.slots t 0) : Memref sig .tc .vmem S8x32768 .f32) fullShare ((dats m 0 c).after 0 t)
    ∗ owns (c : Thread nD τ) (win0_1.stage (cfg0.slots t 1) : Memref sig .tc .vmem S64x32 .f32) fullShare ((dats m 0 c).after 1 t)
    ∗ owns (c : Thread nD τ) (win0_2.stage (cfg0.slots t 2) : Memref sig .tc .vmem S1x32 .f32) fullShare ((dats m 0 c).after 2 t)
    ∗ owns (c : Thread nD τ) (win0_3.stage (cfg0.slots t 3) : Memref sig .tc .vmem S32x32 .f32) fullShare ((dats m 0 c).after 3 t)
    ∗ owns (c : Thread nD τ) (win0_4.stage (cfg0.slots t 4) : Memref sig .tc .vmem S32x32 .f32) fullShare ((dats m 0 c).after 4 t)
    ∗ owns (c : Thread nD τ) (win0_5.stage (cfg0.slots t 5) : Memref sig .tc .vmem S32x32 .f32) fullShare ((dats m 0 c).after 5 t)
    ∗ owns (c : Thread nD τ) (win0_6.stage (cfg0.slots t 6) : Memref sig .tc .vmem S32x1 .f32) fullShare ((dats m 0 c).after 6 t)
    ∗ owns (c : Thread nD τ) (win0_7.stage (cfg0.slots t 7) : Memref sig .tc .vmem S1024x4096 .bf16) fullShare ((dats m 0 c).after 7 t)
    ∗ owns (c : Thread nD τ) (win0_8.stage (cfg0.slots t 8) : Memref sig .tc .vmem S4x2048 .f32) fullShare ((dats m 0 c).after 8 t)
    ∗ owns (c : Thread nD τ) (win0_9.stage (cfg0.slots t 9) : Memref sig .tc .vmem S1x2048 .f32) fullShare ((dats m 0 c).after 9 t)
    ∗ owns (c : Thread nD τ) (win0_10.stage (cfg0.slots t 10) : Memref sig .tc .vmem S2048x64 .f32) fullShare ((dats m 0 c).after 10 t)
    ∗ owns (c : Thread nD τ) (win0_11.stage (cfg0.slots t 11) : Memref sig .tc .vmem S2048x16 .f32) fullShare ((dats m 0 c).after 11 t)
    ∗ owns (c : Thread nD τ) (win0_12.stage (cfg0.slots t 12) : Memref sig .tc .vmem S2048x16 .f32) fullShare ((dats m 0 c).after 12 t)
    ∗ owns (c : Thread nD τ) (win0_13.stage (cfg0.slots t 13) : Memref sig .tc .vmem S64x2048 .f32) fullShare ((dats m 0 c).after 13 t)
    ∗ owns (c : Thread nD τ) (win0_14.stage (cfg0.slots t 14) : Memref sig .tc .vmem S1x2048 .f32) fullShare ((dats m 0 c).after 14 t)
    ∗ owns (c : Thread nD τ) (win0_15.stage (cfg0.slots t 15) : Memref sig .tc .vmem S16x2048 .f32) fullShare ((dats m 0 c).after 15 t)
    ∗ owns (c : Thread nD τ) (win0_16.stage (cfg0.slots t 16) : Memref sig .tc .vmem S1x2048 .f32) fullShare ((dats m 0 c).after 16 t)
    ∗ owns (c : Thread nD τ) (win0_17.stage (cfg0.slots t 17) : Memref sig .tc .vmem S2048x1024 .bf16) fullShare ((dats m 0 c).after 17 t)
    ∗ owns (c : Thread nD τ) (win0_18.stage (cfg0.slots t 18) : Memref sig .tc .vmem S1x1024 .f32) fullShare ((dats m 0 c).after 18 t)
    ∗ owns (c : Thread nD τ) (win0_19.stage (cfg0.slots t 19) : Memref sig .tc .vmem S1x1024 .f32) fullShare ((dats m 0 c).after 19 t)
    ∗ owns (c : Thread nD τ) (win0_20.stage (cfg0.slots t 20) : Memref sig .tc .vmem S1024x128 .f32) fullShare ((dats m 0 c).after 20 t)
    ∗ owns (c : Thread nD τ) (win0_21.stage (cfg0.slots t 21) : Memref sig .tc .vmem S1x128 .f32) fullShare ((dats m 0 c).after 21 t)
    ∗ owns (c : Thread nD τ) (win0_22.stage (cfg0.slots t 22) : Memref sig .tc .vmem S8x128 .f32) fullShare ((dats m 0 c).after 22 t))

set_option maxHeartbeats 2800000 in
/-- The body at any grid point, from the body's triple. -/
theorem body_at (c : Dev nD) (t : Fin cfg0.N) :
    atEntry m c t ⊢ wp frame (wpE (defs₀ (F := F)) Variants.none c none) Set.univ (bodyAt0 t) (fun _ => atExit m c t) := by
  unfold atEntry atExit bodyAt0
  simp only [found_0, found_1, found_2, found_3, found_4, found_5, found_6, found_7, found_8, found_9, found_10, found_11, found_12, found_13, found_14, found_15, found_16, found_17, found_18, found_19, found_20, found_21]
  rw [show (dats m 0 c).Φ t.succ = (dats m 0 c).Φ t.castSucc from rfl,
    show (dats m 0 c).owesAt () t.succ = (dats m 0 c).owesAt () t.castSucc from rfl,
    left_0, left_1, left_2, left_3, left_4, left_5, left_6, left_7, left_8, left_9, left_10, left_11, left_12, left_13, left_14, left_15, left_16, left_17, left_18, left_19, left_20, left_21, left_22]
  rw [show (dats m 0 c).Φ t.castSucc = Pipeline.ΦA spec0 c from rfl, invariant_eq]
  unfold blockOut wtsAt
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply (body_stores c (grid0.coords t) _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexists _; iexact H22
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, H11, H12, H13, H14, H15, H16, H17, H18, H19, H20, H21, H22, HS0, HS1, HS2, HS3, HS4⟩
  isplitl [HS0 HS1 HS2 HS3 HS4 Hg]
  · isplitl [HS0 HS1 HS2 HS3 HS4]
    · isplitl [HS0]
      · iexact HS0
      isplitl [HS1]
      · iexact HS1
      isplitl [HS2]
      · iexact HS2
      isplitl [HS3]
      · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

/-- The body table's row at a grid point is the body. -/
theorem row_eq (t : Fin cfg0.N) :
    defs₀ (F := F) .tc cfg0.body (cfg0.bodyArgs t (cfg0.slots t)) = bodyAt0 t := by
  unfold defs₀; rw [Defs.onTc_tc]

/-- The launch's obligation at every grid point. -/
theorem obligation (c : Dev nD) : BodyObligation (dats (F := F) m 0 c) (defs₀ (F := F)) Variants.none () Set.univ := fun t => by
  rw [bigSep_W0, bigSep_W0, row_eq]
  exact triple_restated (body_at m c t) rfl .rfl fun _ => .rfl

set_option backward.isDefEq.respectTransparency.types false in
/-- The launch runs, every counter at zero at the end. -/
theorem run_quiescent : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := arrays_eq m) (hΦ := fun _ _ => rfl)

/-- The launch runs: every array as the write-backs leave it, every other buffer as the region found it. -/
theorem run_posts : θ_run defs (onTc (τ := τ) (main (F := F))) (s₀ m ρ) (Pipeline.FramePost cfgs (dats m) 0 (V m)) :=
  (θ_run defs _ _).mono (fun _ h => h.1) (run_quiescent m ρ)

/-- The arguments end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  θ_run_and (frame_of m ρ (dats m) (arrays_eq m) (run_posts m ρ)) ((θ_run defs _ _).mono (fun _ h => h.2) (run_quiescent m ρ))

end Cert.KernelIdeal.Body

end
-- ==== Proof.Same.lean ====
/- The kernel and its counterpart over the extended reals are one program: what is proved of the second at every element type holds of the first. -/
module

public import proofs.«01_k».proof.Defs
public import proofs.«01_k».proof.Proof.Gen.Kernel
public import proofs.«01_k».proof.Proof.Pipe

@[expose] public section

set_option maxRecDepth 16384

noncomputable section

namespace Cert.Same

open Idealize.ShloMosaic Idealize.SL.Sem

variable {F : FTy → Type} [FloatOps F]

set_option maxHeartbeats 40000000 in
/-- The two bodies are one. -/
theorem body_eq : @Cert.Kernel.cc0__model_kernel F _ _ = @Cert.KernelIdeal.cc0__model_kernel F _ _ := by rfl

set_option maxHeartbeats 40000000 in
/-- The two tables of bodies are one. -/
theorem bodies_eq : @Cert.Kernel.defs₀ F _ _ = @Cert.KernelIdeal.defs₀ F _ _ := by
  unfold Cert.Kernel.defs₀ Cert.KernelIdeal.defs₀
  refine congrArg Defs.onTc ?_
  funext l a
  match l, a with
  | 0, (t, s) =>
    dsimp only
    rw [body_eq]
    rfl

set_option maxHeartbeats 40000000 in
/-- The two tables of bodies and pipelines are one. -/
theorem table_eq : @Cert.Kernel.defs F _ _ = @Cert.KernelIdeal.defs F _ _ := by
  unfold Cert.Kernel.defs Cert.KernelIdeal.defs
  rw [bodies_eq]
  rfl

set_option maxHeartbeats 40000000 in
/-- The two entry functions are one. -/
theorem main_eq : @Cert.Kernel.main F _ _ = @Cert.KernelIdeal.main F _ _ := by rfl

set_option maxHeartbeats 40000000 in
/-- The kernel runs, leaves its arguments as they were and every counter at zero. -/
theorem kernel_frame : Cert.quiescent_Kernel := fun m ρ _ => by
  rw [table_eq, main_eq]
  exact Cert.KernelIdeal.Body.frame (F := Bits) m ρ

end Cert.Same

end
-- ==== Proof.Stage.lean ====
/- The reference's layer and head as functions of their operands, stage by stage. -/
module

public import proofs.«01_k».proof.Proof.Gen.ReferenceIdeal.Run

@[expose] public section

set_option maxRecDepth 16384

noncomputable section

namespace Cert.ReferenceIdeal.Stage

open Cert.ReferenceIdeal Cert.ReferenceIdeal.Gen Cert.ReferenceIdeal.Value
open Idealize.ShloMosaic Idealize.ShloMosaic.TcCoe

variable {F : FTy → Type} [FloatOps F]

/-- The padded signal in hops of 16 samples. -/
def hops (x : FVec F S64x32x1024 .f32) : FVec F S64x2051x16 .f32 :=
  shapeCast S64x2051x16 (pad S64x32816 ![0, 24] ![0, 24] ![0, 0] (shapeCast S64x32768 x shapeCasts_S64x32x1024_S64x32768) (sitofp .f32 (constantI S_ 32 0#32)) pads_S64x32768_S64x32816_000_24240 h_S_) shapeCasts_S64x32816_S64x2051x16

/-- The first convolution, rectified and averaged in pairs. -/
def xseq (w1 : FVec F S32x1x64 .f32) (b1 : FVec F S32 .f32) (hops : FVec F S64x2051x16 .f32) : FVec F S64x32x1024 .f32 :=
  Host.divf (Host.reduceAdd (shapeCast S64x32x1024x2 (maximumf (addf (addf (addf (addf (addf (broadcastInDim S64x32x2048 ![] bcast_S_S64x32x2048 (constant S_ .f32 0x00000000#32)) (transpose S64x32x2048 [1, 0, 2] (Host.dotGeneral dot_S32x16_S64x2048x16_S32x64x2048_1_2_0_01_n_n none (shapeCast S32x16 (extractStridedSlice S32x1x16 ![0, 0, 0] w1 slices_S32x1x64_S32x1x16_0_0_0) shapeCasts_S32x1x16_S32x16) (extractStridedSlice S64x2048x16 ![0, 0, 0] hops slices_S64x2051x16_S64x2048x16_0_0_0)) transposes_S32x64x2048_S64x32x2048_1_0_2)) (transpose S64x32x2048 [1, 0, 2] (Host.dotGeneral dot_S32x16_S64x2048x16_S32x64x2048_1_2_0_01_n_n none (shapeCast S32x16 (extractStridedSlice S32x1x16 ![0, 0, 16] w1 slices_S32x1x64_S32x1x16_0_0_16) shapeCasts_S32x1x16_S32x16) (extractStridedSlice S64x2048x16 ![0, 1, 0] hops slices_S64x2051x16_S64x2048x16_0_1_0)) transposes_S32x64x2048_S64x32x2048_1_0_2)) (transpose S64x32x2048 [1, 0, 2] (Host.dotGeneral dot_S32x16_S64x2048x16_S32x64x2048_1_2_0_01_n_n none (shapeCast S32x16 (extractStridedSlice S32x1x16 ![0, 0, 32] w1 slices_S32x1x64_S32x1x16_0_0_32) shapeCasts_S32x1x16_S32x16) (extractStridedSlice S64x2048x16 ![0, 2, 0] hops slices_S64x2051x16_S64x2048x16_0_2_0)) transposes_S32x64x2048_S64x32x2048_1_0_2)) (transpose S64x32x2048 [1, 0, 2] (Host.dotGeneral dot_S32x16_S64x2048x16_S32x64x2048_1_2_0_01_n_n none (shapeCast S32x16 (extractStridedSlice S32x1x16 ![0, 0, 48] w1 slices_S32x1x64_S32x1x16_0_0_48) shapeCasts_S32x1x16_S32x16) (extractStridedSlice S64x2048x16 ![0, 3, 0] hops slices_S64x2051x16_S64x2048x16_0_3_0)) transposes_S32x64x2048_S64x32x2048_1_0_2)) (broadcastInDim S64x32x2048 ![0, 1, 2] bcast_S1x32x1_S64x32x2048_0_1_2 (broadcastInDim S1x32x1 ![1] bcast_S32_S1x32x1_1 b1))) (broadcastInDim S64x32x2048 ![] bcast_S_S64x32x2048 (constant S_ .f32 0x00000000#32))) shapeCasts_S64x32x2048_S64x32x1024x2) (constant S_ .f32 0x00000000#32) reducesTo_S64x32x1024x2_S64x32x1024_d3 h_S_) (broadcastInDim S64x32x1024 ![] bcast_S_S64x32x1024 (constant S_ .f32 0x40000000#32))

/-- The input projection. -/
def xz (win : FVec F S1024x4096 .f32) (xseq : FVec F S64x32x1024 .f32) : FVec F S64x32x4096 .f32 :=
  Host.dotGeneral dot_S64x32x1024_S1024x4096_S64x32x4096_2_0_01_1_n_n none xseq win

/-- The gate. -/
def z (xz : FVec F S64x32x4096 .f32) : FVec F S64x32x2048 .f32 :=
  extractStridedSlice S64x32x2048 ![0, 0, 2048] xz slices_S64x32x4096_S64x32x2048_0_0_2048

/-- The other half of the projection, three zero rows before it. -/
def xpad (xz : FVec F S64x32x4096 .f32) : FVec F S64x35x2048 .f32 :=
  pad S64x35x2048 ![0, 3, 0] ![0, 0, 0] ![0, 0, 0] (extractStridedSlice S64x32x2048 ![0, 0, 0] xz slices_S64x32x4096_S64x32x2048_0_0_0) (sitofp .f32 (constantI S_ 32 0#32)) pads_S64x32x2048_S64x35x2048_000_300_000 h_S_

/-- The causal convolution. -/
def conv (wm : FVec F S2048x1x4 .f32) (bm : FVec F S2048 .f32) (xpad : FVec F S64x35x2048 .f32) : FVec F S64x32x2048 .f32 :=
  addf (addf (addf (addf (addf (broadcastInDim S64x32x2048 ![] bcast_S_S64x32x2048 (constant S_ .f32 0x00000000#32)) (mulf (extractStridedSlice S64x32x2048 ![0, 0, 0] xpad slices_S64x35x2048_S64x32x2048_0_0_0) (broadcastInDim S64x32x2048 ![0, 1, 2] bcast_S1x1x2048_S64x32x2048_0_1_2 (broadcastInDim S1x1x2048 ![2] bcast_S2048_S1x1x2048_2 (shapeCast S2048 (extractStridedSlice S2048x1x1 ![0, 0, 0] wm slices_S2048x1x4_S2048x1x1_0_0_0) shapeCasts_S2048x1x1_S2048))))) (mulf (extractStridedSlice S64x32x2048 ![0, 1, 0] xpad slices_S64x35x2048_S64x32x2048_0_1_0) (broadcastInDim S64x32x2048 ![0, 1, 2] bcast_S1x1x2048_S64x32x2048_0_1_2 (broadcastInDim S1x1x2048 ![2] bcast_S2048_S1x1x2048_2 (shapeCast S2048 (extractStridedSlice S2048x1x1 ![0, 0, 1] wm slices_S2048x1x4_S2048x1x1_0_0_1) shapeCasts_S2048x1x1_S2048))))) (mulf (extractStridedSlice S64x32x2048 ![0, 2, 0] xpad slices_S64x35x2048_S64x32x2048_0_2_0) (broadcastInDim S64x32x2048 ![0, 1, 2] bcast_S1x1x2048_S64x32x2048_0_1_2 (broadcastInDim S1x1x2048 ![2] bcast_S2048_S1x1x2048_2 (shapeCast S2048 (extractStridedSlice S2048x1x1 ![0, 0, 2] wm slices_S2048x1x4_S2048x1x1_0_0_2) shapeCasts_S2048x1x1_S2048))))) (mulf (extractStridedSlice S64x32x2048 ![0, 3, 0] xpad slices_S64x35x2048_S64x32x2048_0_3_0) (broadcastInDim S64x32x2048 ![0, 1, 2] bcast_S1x1x2048_S64x32x2048_0_1_2 (broadcastInDim S1x1x2048 ![2] bcast_S2048_S1x1x2048_2 (shapeCast S2048 (extractStridedSlice S2048x1x1 ![0, 0, 3] wm slices_S2048x1x4_S2048x1x1_0_0_3) shapeCasts_S2048x1x1_S2048))))) (broadcastInDim S64x32x2048 ![0, 1, 2] bcast_S1x1x2048_S64x32x2048_0_1_2 (broadcastInDim S1x1x2048 ![2] bcast_S2048_S1x1x2048_2 bm))

/-- Its silu. -/
def xma (conv : FVec F S64x32x2048 .f32) : FVec F S64x32x2048 .f32 :=
  mulf conv (Host.divf (broadcastInDim S64x32x2048 ![] bcast_S_S64x32x2048 (constant S_ .f32 0x3F800000#32)) (addf (broadcastInDim S64x32x2048 ![] bcast_S_S64x32x2048 (constant S_ .f32 0x3F800000#32)) (Host.exp (Host.negf conv))))

/-- The projection to the step sizes and the two state vectors. -/
def dbl (wx : FVec F S2048x96 .f32) (xma : FVec F S64x32x2048 .f32) : FVec F S64x32x96 .f32 :=
  Host.dotGeneral dot_S64x32x2048_S2048x96_S64x32x96_2_0_01_1_n_n none xma wx

/-- The step sizes before the softplus. -/
def pre (wdt : FVec F S64x2048 .f32) (bdt : FVec F S2048 .f32) (dbl : FVec F S64x32x96 .f32) : FVec F S64x32x2048 .f32 :=
  addf (Host.dotGeneral dot_S64x32x64_S64x2048_S64x32x2048_2_0_01_1_n_n none (extractStridedSlice S64x32x64 ![0, 0, 0] dbl slices_S64x32x96_S64x32x64_0_0_0) wdt) (broadcastInDim S64x32x2048 ![0, 1, 2] bcast_S1x1x2048_S64x32x2048_0_1_2 (broadcastInDim S1x1x2048 ![2] bcast_S2048_S1x1x2048_2 bdt))

/-- The step sizes. -/
def delta (pre : FVec F S64x32x2048 .f32) : FVec F S64x32x2048 .f32 :=
  select (cmpf .une (subf pre (broadcastInDim S64x32x2048 ![] bcast_S_S64x32x2048 (constant S_ .f32 0x00000000#32))) (subf pre (broadcastInDim S64x32x2048 ![] bcast_S_S64x32x2048 (constant S_ .f32 0x00000000#32)))) (addf pre (broadcastInDim S64x32x2048 ![] bcast_S_S64x32x2048 (constant S_ .f32 0x00000000#32))) (addf (maximumf pre (broadcastInDim S64x32x2048 ![] bcast_S_S64x32x2048 (constant S_ .f32 0x00000000#32))) (Host.log1p (Host.exp (Host.negf (Host.absf (subf pre (broadcastInDim S64x32x2048 ![] bcast_S_S64x32x2048 (constant S_ .f32 0x00000000#32))))))))

/-- The decay of each state. -/
def dA (alog : FVec F S2048x16 .f32) (delta : FVec F S64x32x2048 .f32) : FVec F S64x32x2048x16 .f32 :=
  Host.exp (mulf (broadcastInDim S64x32x2048x16 ![0, 1, 2, 3] bcast_S64x32x2048x1_S64x32x2048x16_0_1_2_3 (broadcastInDim S64x32x2048x1 ![0, 1, 2] bcast_S64x32x2048_S64x32x2048x1_0_1_2 delta)) (broadcastInDim S64x32x2048x16 ![0, 1, 2, 3] bcast_S1x1x2048x16_S64x32x2048x16_0_1_2_3 (broadcastInDim S1x1x2048x16 ![2, 3] bcast_S2048x16_S1x1x2048x16_2_3 (Host.negf (Host.exp alog)))))

/-- What is added to each state. -/
def dBu (xma : FVec F S64x32x2048 .f32) (dbl : FVec F S64x32x96 .f32) (delta : FVec F S64x32x2048 .f32) : FVec F S64x32x2048x16 .f32 :=
  mulf (mulf (broadcastInDim S64x32x2048x16 ![0, 1, 2, 3] bcast_S64x32x2048x1_S64x32x2048x16_0_1_2_3 (broadcastInDim S64x32x2048x1 ![0, 1, 2] bcast_S64x32x2048_S64x32x2048x1_0_1_2 delta)) (broadcastInDim S64x32x2048x16 ![0, 1, 2, 3] bcast_S64x32x1x16_S64x32x2048x16_0_1_2_3 (broadcastInDim S64x32x1x16 ![0, 1, 3] bcast_S64x32x16_S64x32x1x16_0_1_3 (extractStridedSlice S64x32x16 ![0, 0, 64] dbl slices_S64x32x96_S64x32x16_0_0_64)))) (broadcastInDim S64x32x2048x16 ![0, 1, 2, 3] bcast_S64x32x2048x1_S64x32x2048x16_0_1_2_3 (broadcastInDim S64x32x2048x1 ![0, 1, 2] bcast_S64x32x2048_S64x32x2048x1_0_1_2 xma))

/-- The gated output projected, and the residual. -/
def x2 (dres : FVec F S2048 .f32) (wout : FVec F S2048x1024 .f32) (xseq : FVec F S64x32x1024 .f32) (z : FVec F S64x32x2048 .f32) (xma : FVec F S64x32x2048 .f32) (dbl : FVec F S64x32x96 .f32) (hs : FVec F S64x32x2048x16 .f32) : FVec F S64x32x1024 .f32 :=
  addf (Host.dotGeneral dot_S64x32x2048_S2048x1024_S64x32x1024_2_0_01_1_n_n none (mulf (addf (Host.dotGeneral dot_S64x32x2048x16_S64x32x16_S64x32x2048_3_2_2_n_01_01 none hs (extractStridedSlice S64x32x16 ![0, 0, 80] dbl slices_S64x32x96_S64x32x16_0_0_80)) (mulf xma (broadcastInDim S64x32x2048 ![0, 1, 2] bcast_S1x1x2048_S64x32x2048_0_1_2 (broadcastInDim S1x1x2048 ![2] bcast_S2048_S1x1x2048_2 dres)))) (mulf z (Host.divf (broadcastInDim S64x32x2048 ![] bcast_S_S64x32x2048 (constant S_ .f32 0x3F800000#32)) (addf (broadcastInDim S64x32x2048 ![] bcast_S_S64x32x2048 (constant S_ .f32 0x3F800000#32)) (Host.exp (Host.negf z)))))) wout) xseq

/-- The same between two zero columns. -/
def x2pad (x2 : FVec F S64x32x1024 .f32) : FVec F S64x32x1026 .f32 :=
  pad S64x32x1026 ![0, 0, 1] ![0, 0, 1] ![0, 0, 0] x2 (sitofp .f32 (constantI S_ 32 0#32)) pads_S64x32x1024_S64x32x1026_000_000_110 h_S_

/-- One layer. -/
def layer (w2 : FVec F S32x32x3 .f32) (b2 : FVec F S32 .f32) (x2 : FVec F S64x32x1024 .f32) (x2pad : FVec F S64x32x1026 .f32) : FVec F S64x32x1024 .f32 :=
  (addf (maximumf (addf (addf (addf (addf (broadcastInDim S64x32x1024 ![] bcast_S_S64x32x1024 (constant S_ .f32 0x00000000#32)) (transpose S64x32x1024 [1, 0, 2] (Host.dotGeneral dot_S32x32_S64x32x1024_S32x64x1024_1_1_0_02_n_n none (shapeCast S32x32 (extractStridedSlice S32x32x1 ![0, 0, 0] w2 slices_S32x32x3_S32x32x1_0_0_0) shapeCasts_S32x32x1_S32x32) (extractStridedSlice S64x32x1024 ![0, 0, 0] x2pad slices_S64x32x1026_S64x32x1024_0_0_0)) transposes_S32x64x1024_S64x32x1024_1_0_2)) (transpose S64x32x1024 [1, 0, 2] (Host.dotGeneral dot_S32x32_S64x32x1024_S32x64x1024_1_1_0_02_n_n none (shapeCast S32x32 (extractStridedSlice S32x32x1 ![0, 0, 1] w2 slices_S32x32x3_S32x32x1_0_0_1) shapeCasts_S32x32x1_S32x32) (extractStridedSlice S64x32x1024 ![0, 0, 1] x2pad slices_S64x32x1026_S64x32x1024_0_0_1)) transposes_S32x64x1024_S64x32x1024_1_0_2)) (transpose S64x32x1024 [1, 0, 2] (Host.dotGeneral dot_S32x32_S64x32x1024_S32x64x1024_1_1_0_02_n_n none (shapeCast S32x32 (extractStridedSlice S32x32x1 ![0, 0, 2] w2 slices_S32x32x3_S32x32x1_0_0_2) shapeCasts_S32x32x1_S32x32) (extractStridedSlice S64x32x1024 ![0, 0, 2] x2pad slices_S64x32x1026_S64x32x1024_0_0_2)) transposes_S32x64x1024_S64x32x1024_1_0_2)) (broadcastInDim S64x32x1024 ![0, 1, 2] bcast_S1x32x1_S64x32x1024_0_1_2 (broadcastInDim S1x32x1 ![1] bcast_S32_S1x32x1_1 b2))) (broadcastInDim S64x32x1024 ![] bcast_S_S64x32x1024 (constant S_ .f32 0x00000000#32))) x2)

/-- The head. -/
def head (x : FVec F S64x32x1024 .f32) (lng : FVec F S1024 .f32) (lnb : FVec F S1024 .f32) (wfc : FVec F S1024x128 .f32) (bfc : FVec F S128 .f32) : FVec F S64x128 .f32 :=
  addf (Host.dotGeneral dot_S64x1024_S1024x128_S64x128_1_0_0_1_n_n none (Host.divf (Host.reduceAdd (addf (mulf (mulf (subf x (broadcastInDim S64x32x1024 ![0, 1, 2] bcast_S64x32x1_S64x32x1024_0_1_2 (Host.divf (broadcastInDim S64x32x1 ![0, 1] bcast_S64x32_S64x32x1_0_1 (Host.reduceAdd x (constant S_ .f32 0x00000000#32) reducesTo_S64x32x1024_S64x32_d2 h_S_)) (broadcastInDim S64x32x1 ![] bcast_S_S64x32x1 (constant S_ .f32 0x44800000#32))))) (broadcastInDim S64x32x1024 ![0, 1, 2] bcast_S64x32x1_S64x32x1024_0_1_2 (Host.rsqrt (addf (Host.divf (broadcastInDim S64x32x1 ![0, 1] bcast_S64x32_S64x32x1_0_1 (Host.reduceAdd (mulf (subf x (broadcastInDim S64x32x1024 ![0, 1, 2] bcast_S64x32x1_S64x32x1024_0_1_2 (Host.divf (broadcastInDim S64x32x1 ![0, 1] bcast_S64x32_S64x32x1_0_1 (Host.reduceAdd x (constant S_ .f32 0x00000000#32) reducesTo_S64x32x1024_S64x32_d2 h_S_)) (broadcastInDim S64x32x1 ![] bcast_S_S64x32x1 (constant S_ .f32 0x44800000#32))))) (subf x (broadcastInDim S64x32x1024 ![0, 1, 2] bcast_S64x32x1_S64x32x1024_0_1_2 (Host.divf (broadcastInDim S64x32x1 ![0, 1] bcast_S64x32_S64x32x1_0_1 (Host.reduceAdd x (constant S_ .f32 0x00000000#32) reducesTo_S64x32x1024_S64x32_d2 h_S_)) (broadcastInDim S64x32x1 ![] bcast_S_S64x32x1 (constant S_ .f32 0x44800000#32)))))) (constant S_ .f32 0x00000000#32) reducesTo_S64x32x1024_S64x32_d2 h_S_)) (broadcastInDim S64x32x1 ![] bcast_S_S64x32x1 (constant S_ .f32 0x44800000#32))) (broadcastInDim S64x32x1 ![] bcast_S_S64x32x1 (constant S_ .f32 0x3727C5AC#32)))))) (broadcastInDim S64x32x1024 ![0, 1, 2] bcast_S1x1x1024_S64x32x1024_0_1_2 (broadcastInDim S1x1x1024 ![2] bcast_S1024_S1x1x1024_2 lng))) (broadcastInDim S64x32x1024 ![0, 1, 2] bcast_S1x1x1024_S64x32x1024_0_1_2 (broadcastInDim S1x1x1024 ![2] bcast_S1024_S1x1x1024_2 lnb))) (constant S_ .f32 0x00000000#32) reducesTo_S64x32x1024_S64x1024_d1 h_S_) (broadcastInDim S64x1024 ![] bcast_S_S64x1024 (constant S_ .f32 0x42000000#32))) wfc) (broadcastInDim S64x128 ![0, 1] bcast_S1x128_S64x128_0_1 (broadcastInDim S1x128 ![1] bcast_S128_S1x128_1 bfc))

/-- A slice of one time step fits. -/
theorem slices_at (t : ℕ) (ht : t < 32) : S64x32x2048x16.Slices ![0, t, 0, 0] S64x1x2048x16 :=
  ⟨rfl, fun a => match a with
    | ⟨0, _⟩ => Nat.le_refl 64
    | ⟨1, _⟩ => ht
    | ⟨2, _⟩ => Nat.le_refl 2048
    | ⟨3, _⟩ => Nat.le_refl 16⟩

/-- One step of the recurrence: the state of time `t`, from that before. -/
def advance (dA dBu : FVec F S64x32x2048x16 .f32) (t : ℕ) (ht : t < 32) (h : FVec F S64x1x2048x16 .f32) : FVec F S64x1x2048x16 .f32 :=
  addf (mulf (extractStridedSlice S64x1x2048x16 ![0, t, 0, 0] dA (slices_at t ht)) h) (extractStridedSlice S64x1x2048x16 ![0, t, 0, 0] dBu (slices_at t ht))

/-- The state after `t` steps, from zero. -/
def state (dA dBu : FVec F S64x32x2048x16 .f32) : (t : ℕ) → t ≤ 32 → FVec F S64x1x2048x16 .f32
  | 0, _ => broadcastInDim S64x1x2048x16 ![] bcast_S_S64x1x2048x16 (constant S_ .f32 0x00000000#32)
  | t + 1, h => advance dA dBu t h (state dA dBu t (Nat.le_of_succ_le h))

/-- The states of the first sixteen times. -/
def early (dA dBu : FVec F S64x32x2048x16 .f32) : FVec F S64x16x2048x16 .f32 :=
  concatenate S64x16x2048x16 1 (List.ofFn fun k : Fin 16 => (⟨S64x1x2048x16, state dA dBu (k.val + 1) (Nat.le_trans k.isLt (by decide))⟩ : (s : Shape) × (s.Idx → F .f32)))
    concatenates_S64x1x2048x16_S64x1x2048x16_S64x1x2048x16_S64x1x2048x16_S64x1x2048x16_S64x1x2048x16_S64x1x2048x16_S64x1x2048x16_S64x1x2048x16_S64x1x2048x16_S64x1x2048x16_S64x1x2048x16_S64x1x2048x16_S64x1x2048x16_S64x1x2048x16_S64x1x2048x16_S64x16x2048x16_d1

/-- The states of the last sixteen times. -/
def late (dA dBu : FVec F S64x32x2048x16 .f32) : FVec F S64x16x2048x16 .f32 :=
  concatenate S64x16x2048x16 1 (List.ofFn fun k : Fin 16 => (⟨S64x1x2048x16, state dA dBu (k.val + 17) (Nat.add_le_add_right (Nat.le_of_lt_succ k.isLt) 17)⟩ : (s : Shape) × (s.Idx → F .f32)))
    concatenates_S64x1x2048x16_S64x1x2048x16_S64x1x2048x16_S64x1x2048x16_S64x1x2048x16_S64x1x2048x16_S64x1x2048x16_S64x1x2048x16_S64x1x2048x16_S64x1x2048x16_S64x1x2048x16_S64x1x2048x16_S64x1x2048x16_S64x1x2048x16_S64x1x2048x16_S64x1x2048x16_S64x16x2048x16_d1

/-- All the states. -/
def states (dA dBu : FVec F S64x32x2048x16 .f32) : FVec F S64x32x2048x16 .f32 :=
  concatenate S64x32x2048x16 1 [⟨S64x16x2048x16, early dA dBu⟩, ⟨S64x16x2048x16, late dA dBu⟩] concatenates_S64x16x2048x16_S64x16x2048x16_S64x32x2048x16_d1

/-- The weights of the reference's layer. -/
structure Par (F : FTy → Type) [FloatOps F] where
  w1 : FVec F S32x1x64 .f32
  b1 : FVec F S32 .f32
  win : FVec F S1024x4096 .f32
  wm : FVec F S2048x1x4 .f32
  bm : FVec F S2048 .f32
  wx : FVec F S2048x96 .f32
  wdt : FVec F S64x2048 .f32
  bdt : FVec F S2048 .f32
  alog : FVec F S2048x16 .f32
  dres : FVec F S2048 .f32
  wout : FVec F S2048x1024 .f32
  w2 : FVec F S32x32x3 .f32
  b2 : FVec F S32 .f32

namespace Par

/-! Each stage of the layer on its input. -/
def hopsAt (R : Par F) (x : FVec F S64x32x1024 .f32) : FVec F S64x2051x16 .f32 := Stage.hops x
def xseqAt (R : Par F) (x : FVec F S64x32x1024 .f32) : FVec F S64x32x1024 .f32 := Stage.xseq R.w1 R.b1 (hopsAt R x)
def xzAt (R : Par F) (x : FVec F S64x32x1024 .f32) : FVec F S64x32x4096 .f32 := Stage.xz R.win (xseqAt R x)
def zAt (R : Par F) (x : FVec F S64x32x1024 .f32) : FVec F S64x32x2048 .f32 := Stage.z (xzAt R x)
def xpadAt (R : Par F) (x : FVec F S64x32x1024 .f32) : FVec F S64x35x2048 .f32 := Stage.xpad (xzAt R x)
def convAt (R : Par F) (x : FVec F S64x32x1024 .f32) : FVec F S64x32x2048 .f32 := Stage.conv R.wm R.bm (xpadAt R x)
def xmaAt (R : Par F) (x : FVec F S64x32x1024 .f32) : FVec F S64x32x2048 .f32 := Stage.xma (convAt R x)
def dblAt (R : Par F) (x : FVec F S64x32x1024 .f32) : FVec F S64x32x96 .f32 := Stage.dbl R.wx (xmaAt R x)
def preAt (R : Par F) (x : FVec F S64x32x1024 .f32) : FVec F S64x32x2048 .f32 := Stage.pre R.wdt R.bdt (dblAt R x)
def deltaAt (R : Par F) (x : FVec F S64x32x1024 .f32) : FVec F S64x32x2048 .f32 := Stage.delta (preAt R x)
def dAAt (R : Par F) (x : FVec F S64x32x1024 .f32) : FVec F S64x32x2048x16 .f32 := Stage.dA R.alog (deltaAt R x)
def dBuAt (R : Par F) (x : FVec F S64x32x1024 .f32) : FVec F S64x32x2048x16 .f32 := Stage.dBu (xmaAt R x) (dblAt R x) (deltaAt R x)
def hsAt (R : Par F) (x : FVec F S64x32x1024 .f32) : FVec F S64x32x2048x16 .f32 := Stage.states (dAAt R x) (dBuAt R x)
def x2At (R : Par F) (x : FVec F S64x32x1024 .f32) : FVec F S64x32x1024 .f32 := Stage.x2 R.dres R.wout (xseqAt R x) (zAt R x) (xmaAt R x) (dblAt R x) (hsAt R x)
def x2padAt (R : Par F) (x : FVec F S64x32x1024 .f32) : FVec F S64x32x1026 .f32 := Stage.x2pad (x2At R x)
def layerAt (R : Par F) (x : FVec F S64x32x1024 .f32) : FVec F S64x32x1024 .f32 := Stage.layer R.w2 R.b2 (x2At R x) (x2padAt R x)
end Par

/-- The weights in a valuation. -/
def par (V0 : Valuation τ sig (Elt F)) : Par F where
  w1 := V0 (Proc.devRef .tc main_v1_0)
  b1 := V0 (Proc.devRef .tc main_v1_1)
  win := V0 (Proc.devRef .tc main_v1_2)
  wm := V0 (Proc.devRef .tc main_v1_3)
  bm := V0 (Proc.devRef .tc main_v1_4)
  wx := V0 (Proc.devRef .tc main_v1_5)
  wdt := V0 (Proc.devRef .tc main_v1_6)
  bdt := V0 (Proc.devRef .tc main_v1_7)
  alog := V0 (Proc.devRef .tc main_v1_8)
  dres := V0 (Proc.devRef .tc main_v1_9)
  wout := V0 (Proc.devRef .tc main_v1_10)
  w2 := V0 (Proc.devRef .tc main_v1_11)
  b2 := V0 (Proc.devRef .tc main_v1_12)

set_option maxHeartbeats 1000000 in
/-- A pass of the loop is the layer. -/
theorem step_eq (V0 : Valuation τ sig (Elt F)) : step_main_v1_15 V0 = (par V0).layerAt (V0 (Proc.devRef .tc main_v1_15)) := by
  rfl

/-- The result is the head. -/
theorem out_eq (V0 : Valuation τ sig (Elt F)) : out_main_v32 V0 = head (V0 (Proc.devRef .tc main_v1_15)) (V0 (Proc.devRef .tc main_arg14))
    (V0 (Proc.devRef .tc main_arg15)) (V0 (Proc.devRef .tc main_arg16)) (V0 (Proc.devRef .tc main_arg17)) := by
  rfl

end Cert.ReferenceIdeal.Stage

end
-- ==== Proof.Layer.lean ====
/- One layer of the kernel computes one layer of the reference on the kernel's eight rows of the batch, stage by stage; then the four layers and the head. -/
module

public import proofs.«01_k».proof.Proof.BodyVal
public import proofs.«01_k».proof.Proof.Stage
public import Idealize.ShloMosaic.Lib.Pointwise

@[expose] public section

set_option maxRecDepth 16384
set_option maxHeartbeats 1600000

noncomputable section

namespace Cert.Layer

open Cert.KernelIdeal Cert.KernelIdeal.Gen Cert.KernelIdeal.Body
open Idealize.ShloMosaic Idealize.ShloMosaic.TcCoe Idealize.SL.Sem
open Cert.ReferenceIdeal (Stage.Par)
open Cert.ReferenceIdeal.Stage

variable (W : Wts Ideal) (R : Par Ideal) (x : Vec Ideal S8x32768 .f32) (X : FVec Ideal Cert.ReferenceIdeal.S64x32x1024 .f32) (e : Fin 8 → Fin 64)

/-- The two sets of weights agree. -/
structure Agree (W : Wts Ideal) (R : Par Ideal) : Prop where
  w1 : ∀ (t : Fin 64) (o : Fin 32), W.w1 (ix2 t o) = R.w1 (ix3 o 0 t)
  b1 : ∀ o : Fin 32, W.b1 (ix2 0 o) = R.b1 (ix1 o)
  w20 : ∀ o i : Fin 32, W.w20 (ix2 o i) = R.w2 (ix3 o i 0)
  w21 : ∀ o i : Fin 32, W.w21 (ix2 o i) = R.w2 (ix3 o i 1)
  w22 : ∀ o i : Fin 32, W.w22 (ix2 o i) = R.w2 (ix3 o i 2)
  b2 : ∀ o : Fin 32, W.b2 (ix2 o 0) = R.b2 (ix1 o)
  win : ∀ (i : Fin 1024) (j : Fin 4096), W.win (ix2 i j) = R.win (ix2 i j)
  wm : ∀ (k : Fin 4) (j : Fin 2048), W.wm (ix2 k j) = R.wm (ix3 j 0 k)
  bm : ∀ j : Fin 2048, W.bm (ix2 0 j) = R.bm (ix1 j)
  wpdt : ∀ (j : Fin 2048) (r : Fin 64), W.wpdt (ix2 j r) = R.wx (ix2 j ⟨r.val, Nat.lt_of_lt_of_le r.isLt (by decide)⟩)
  wpb : ∀ (j : Fin 2048) (r : Fin 16), W.wpb (ix2 j r) = R.wx (ix2 j ⟨64 + r.val, by omega⟩)
  wpc : ∀ (j : Fin 2048) (r : Fin 16), W.wpc (ix2 j r) = R.wx (ix2 j ⟨80 + r.val, by omega⟩)
  wdt : ∀ (r : Fin 64) (j : Fin 2048), W.wdt (ix2 r j) = R.wdt (ix2 r j)
  bdt : ∀ j : Fin 2048, W.bdt (ix2 0 j) = R.bdt (ix1 j)
  alog : ∀ (s : Fin 16) (j : Fin 2048), W.alogt (ix2 s j) = R.alog (ix2 j s)
  dres : ∀ j : Fin 2048, W.dres (ix2 0 j) = R.dres (ix1 j)
  wout : ∀ (j : Fin 2048) (d : Fin 1024), W.wout (ix2 j d) = R.wout (ix2 j d)
variable {W R x X e} (A : Agree W R)
include A

/-- The convolution's half of the input projection agrees. -/
theorem xm_at (hxs : ∀ (l : Fin 32) (b : Fin 8) (d : Fin 1024), W.xseq x (ix3 l b d) = R.xseqAt X (ix3 (e b) l d)) (l : Fin 32) (b : Fin 8) (j : Fin 2048) : W.xm x (ix3 l b j) = R.xzAt X (ix3 (e b) l ⟨j.val, Nat.lt_of_lt_of_le j.isLt (by decide)⟩) := by
  have h : ∀ (l : Fin 32) (b : Fin 8) (d : Fin 1024), k0_pay9 (W.ev x) (W.od x) W.b1 W.b1 (ix3 l b d) = R.xseqAt X (ix3 (e b) l d) := hxs
  unfold Wts.xm Par.xzAt
  pointwise [k0_pay11, k0_pay10, xz, h, A.win]

/-- The gate agrees. -/
theorem z_at (hxs : ∀ (l : Fin 32) (b : Fin 8) (d : Fin 1024), W.xseq x (ix3 l b d) = R.xseqAt X (ix3 (e b) l d)) (l : Fin 32) (b : Fin 8) (j : Fin 2048) : W.z x (ix3 l b j) = R.zAt X (ix3 (e b) l j) := by
  have h : ∀ (l : Fin 32) (b : Fin 8) (d : Fin 1024), k0_pay9 (W.ev x) (W.od x) W.b1 W.b1 (ix3 l b d) = R.xseqAt X (ix3 (e b) l d) := hxs
  unfold Wts.z Par.zAt Par.xzAt
  pointwise [k0_pay12, k0_pay10, z, xz, h, A.win]

omit A in
/-- One row of the four taps. -/
theorem window_at (w : Vec Ideal S4x2048 .f32) (k : Fin 4) (h : ∀ a, ![k.val, 0] a + S1x2048.size a ≤ S4x2048.size a) (j : Fin 2048) :
    VecWindow.window w ![k.val, 0] S1x2048.size h (ix2 0 j) = w (ix2 k j) := by
  unfold VecWindow.window
  congr 1
  funext a
  match a with
  | ⟨0, _⟩ => exact Fin.ext (Nat.add_zero _)
  | ⟨1, _⟩ => exact Fin.ext (by show 0 + 1 * j.val = j.val; omega)

omit A in
/-- The integer zero as a float is zero. -/
theorem sitofp_nought : (FloatOps.sitofp FTy.f32 0#32 : Ideal .f32) = 0 := by
  show ((((0#32 : BitVec 32).toInt : ℤ) : ℝ) : EReal) = 0
  simp

/-- One tap of the causal convolution agrees. -/
theorem tap_at (k : Fin 4) (h : ∀ a, ![k.val, 0] a + S1x2048.size a ≤ S4x2048.size a) (j : Fin 2048) : W.tap k.val h (ix2 0 j) = R.wm (ix3 j 0 k) :=
  (window_at W.wm k h j).trans (A.wm k j)

/-- The causal convolution and its silu agree. -/
theorem xma_at (hxm : ∀ (l : Fin 32) (b : Fin 8) (j : Fin 2048), W.xm x (ix3 l b j) = R.xzAt X (ix3 (e b) l ⟨j.val, Nat.lt_of_lt_of_le j.isLt (by decide)⟩)) (l : Fin 32) (b : Fin 8) (j : Fin 2048) : W.xma x (ix3 l b j) = R.xmaAt X (ix3 (e b) l j) := by
  have h : ∀ (l : Fin 32) (b : Fin 8) (j : Fin 2048), k0_pay11 (W.ev x) (W.od x) W.b1 W.b1 W.win (ix3 l b j) = R.xzAt X (ix3 (e b) l ⟨j.val, Nat.lt_of_lt_of_le j.isLt (by decide)⟩) := hxm
  have t0 := tap_at A 0 inb_S4x2048_S1x2048_0_0 j
  have t1 := tap_at A 1 inb_S4x2048_S1x2048_1_0 j
  have t2 := tap_at A 2 inb_S4x2048_S1x2048_2_0 j
  have t3 := tap_at A 3 inb_S4x2048_S1x2048_3_0 j
  have t0' : W.tap 0 inb_S4x2048_S1x2048_0_0 (ix2 0 j) = R.wm (ix3 j 0 0) := t0
  have t1' : W.tap 1 inb_S4x2048_S1x2048_1_0 (ix2 0 j) = R.wm (ix3 j 0 1) := t1
  have t2' : W.tap 2 inb_S4x2048_S1x2048_2_0 (ix2 0 j) = R.wm (ix3 j 0 2) := t2
  have t3' : W.tap 3 inb_S4x2048_S1x2048_3_0 (ix2 0 j) = R.wm (ix3 j 0 3) := t3
  unfold Wts.xma Wts.conv01 Wts.late2 Par.xmaAt Par.convAt Par.xpadAt
  pointwise [k0_pay16, k0_pay13, k0_pay14, k0_pay15, k0_pay2, Cert.ReferenceIdeal.Stage.conv, Cert.ReferenceIdeal.Stage.xpad, Cert.ReferenceIdeal.Stage.xma, h, hxm, A.bm, t0', t1', t2', t3', sitofp_nought]
  have key : ∀ p q : EReal, p = q → p * Ideal.logistic p = q * Ideal.div 1 (1 + Ideal.exp (-q)) := fun p q h => by subst h; rfl
  refine key _ _ ?_
  have e2 : (if h : l.val < 1 then (0 : EReal) else R.xzAt X (ix3 (e b) ⟨l.val - 1, by omega⟩ ⟨j.val, by omega⟩)) =
      if h : 3 ≤ 2 + l.val ∧ 2 + l.val - 3 < 32 then R.xzAt X (ix3 (e b) ⟨2 + l.val - 3, h.2⟩ ⟨j.val, by omega⟩) else 0 := by
    by_cases h : l.val < 1
    · rw [dif_pos h, dif_neg (by omega)]
    · rw [dif_neg h, dif_pos (by omega)]
      exact congrArg (fun i => R.xzAt X (ix3 (e b) i _)) (Fin.ext (by simp only []; omega))
  have e1 : (if h : l.val < 1 then (0 : EReal) else if h : l.val - 1 < 1 then 0 else R.xzAt X (ix3 (e b) ⟨l.val - 1 - 1, by omega⟩ ⟨j.val, by omega⟩)) =
      if h : 3 ≤ 1 + l.val ∧ 1 + l.val - 3 < 32 then R.xzAt X (ix3 (e b) ⟨1 + l.val - 3, h.2⟩ ⟨j.val, by omega⟩) else 0 := by
    by_cases h : l.val < 1
    · rw [dif_pos h, dif_neg (by omega)]
    · by_cases h' : l.val - 1 < 1
      · rw [dif_neg h, dif_pos h', dif_neg (by omega)]
      · rw [dif_neg h, dif_neg h', dif_pos (by omega)]
        exact congrArg (fun i => R.xzAt X (ix3 (e b) i _)) (Fin.ext (by simp only []; omega))
  have e0 : (if h : l.val < 1 then (0 : EReal) else if h : l.val - 1 < 1 then 0 else if h : l.val - 1 - 1 < 1 then 0 else R.xzAt X (ix3 (e b) ⟨l.val - 1 - 1 - 1, by omega⟩ ⟨j.val, by omega⟩)) =
      if h : 3 ≤ l.val ∧ l.val - 3 < 32 then R.xzAt X (ix3 (e b) ⟨l.val - 3, h.2⟩ ⟨j.val, by omega⟩) else 0 := by
    by_cases h : l.val < 1
    · rw [dif_pos h, dif_neg (by omega)]
    · by_cases h' : l.val - 1 < 1
      · rw [dif_neg h, dif_pos h', dif_neg (by omega)]
      · by_cases h'' : l.val - 1 - 1 < 1
        · rw [dif_neg h, dif_neg h', dif_pos h'', dif_neg (by omega)]
        · rw [dif_neg h, dif_neg h', dif_neg h'', dif_pos (by omega)]
          exact congrArg (fun i => R.xzAt X (ix3 (e b) i _)) (Fin.ext (by simp only []; omega))
  rw [e2, e1, e0]
  generalize (dite (3 ≤ l.val ∧ l.val - 3 < 32) _ _ : EReal) = c0
  generalize (dite (3 ≤ 1 + l.val ∧ 1 + l.val - 3 < 32) _ _ : EReal) = c1
  generalize (dite (3 ≤ 2 + l.val ∧ 2 + l.val - 3 < 32) _ _ : EReal) = c2
  ac_rfl

omit A in
/-- The same in the order of rows the projections read: time step by time step. -/
theorem xmaR_at (hxa : ∀ (l : Fin 32) (b : Fin 8) (j : Fin 2048), W.xma x (ix3 l b j) = R.xmaAt X (ix3 (e b) l j)) (l : Fin 32) (b : Fin 8) (j : Fin 2048) : W.xmaR x (ix2 ⟨l.val * 8 + b.val, by omega⟩ j) = R.xmaAt X (ix3 (e b) l j) := by
  rw [← hxa]
  unfold Wts.xmaR Wts.xma
  pointwise [k0_pay17]

/-- The input vectors of the states agree. -/
theorem bs_at (hxr : ∀ (l : Fin 32) (b : Fin 8) (j : Fin 2048), W.xmaR x (ix2 ⟨l.val * 8 + b.val, by omega⟩ j) = R.xmaAt X (ix3 (e b) l j)) (l : Fin 32) (b : Fin 8) (s : Fin 16) : W.bs x (ix3 l b s) = R.dblAt X (ix3 (e b) l ⟨64 + s.val, by omega⟩) := by
  unfold Wts.bs Par.dblAt
  pointwise [k0_pay21, Cert.ReferenceIdeal.Stage.dbl, A.wpb]
  exact Finset.sum_congr rfl fun j _ => by rw [hxr]

/-- The output vectors of the states agree. -/
theorem cs_at (hxr : ∀ (l : Fin 32) (b : Fin 8) (j : Fin 2048), W.xmaR x (ix2 ⟨l.val * 8 + b.val, by omega⟩ j) = R.xmaAt X (ix3 (e b) l j)) (l : Fin 32) (b : Fin 8) (s : Fin 16) : W.cs x (ix3 l b s) = R.dblAt X (ix3 (e b) l ⟨80 + s.val, by omega⟩) := by
  unfold Wts.cs Par.dblAt
  pointwise [k0_pay22, Cert.ReferenceIdeal.Stage.dbl, A.wpc]
  exact Finset.sum_congr rfl fun j _ => by rw [hxr]

omit A in
/-- The two spellings of the softplus agree. -/
theorem softplus_eq (p q : EReal) (h : p = q) : max p 0 + Ideal.log (1 + Ideal.exp (0 - (FloatOps.absf (F := Ideal) (φ := .f32) p))) =
    (if q ≠ q then q else max q 0 + Ideal.log1p (Ideal.exp (-(FloatOps.absf (F := Ideal) (φ := .f32) q)))) := by
  subst h
  rw [if_neg (fun h => h rfl), zero_sub]
  rfl

/-- The step sizes agree. -/
theorem deltaRaw_at (hxr : ∀ (l : Fin 32) (b : Fin 8) (j : Fin 2048), W.xmaR x (ix2 ⟨l.val * 8 + b.val, by omega⟩ j) = R.xmaAt X (ix3 (e b) l j)) (l : Fin 32) (b : Fin 8) (j : Fin 2048) : W.deltaRaw x (ix3 l b j) = R.deltaAt X (ix3 (e b) l j) := by
  have h : ∀ (l : Fin 32) (b : Fin 8) (j : Fin 2048), k0_pay17 (W.xm x) k0_pay13 (W.conv01 x) (W.late2 x)  (W.tap 1 inb_S4x2048_S1x2048_1_0) (W.tap 0 inb_S4x2048_S1x2048_0_0) (ix2 ⟨l.val * 8 + b.val, by omega⟩ j) = R.xmaAt X (ix3 (e b) l j) := hxr
  unfold Wts.deltaRaw Par.deltaAt Par.preAt Par.dblAt
  pointwise [k0_pay18, Cert.ReferenceIdeal.Stage.dbl, Cert.ReferenceIdeal.Stage.pre, Cert.ReferenceIdeal.Stage.delta, A.wpdt, A.wdt, A.bdt]
  refine softplus_eq _ _ ?_
  refine congrArg (· + _) (Finset.sum_congr rfl fun r _ => congrArg (· * _) (Finset.sum_congr rfl fun i _ => ?_))
  exact congrArg (· * _) (h l b i)

omit A in
/-- The step sizes the scan reads are those. -/
theorem delta_at (l : Fin 32) (b : Fin 8) (j : Fin 2048) : W.delta x (ix3 l b j) = W.deltaRaw x (ix3 l b j) := by
  unfold Wts.delta Wts.deltaRaw
  pointwise [k0_pay20]

omit A in
/-- The scaled inputs the scan reads. -/
theorem u_at (l : Fin 32) (b : Fin 8) (j : Fin 2048) : W.u x (ix3 l b j) = W.deltaRaw x (ix3 l b j) * W.xma x (ix3 l b j) := by
  unfold Wts.u Wts.deltaRaw Wts.xma
  pointwise [k0_pay19]

/-- The gated scan, projected back and added to the input, agrees. -/
theorem x2_at (hxs : ∀ (l : Fin 32) (b : Fin 8) (d : Fin 1024), W.xseq x (ix3 l b d) = R.xseqAt X (ix3 (e b) l d)) (hz : ∀ (l : Fin 32) (b : Fin 8) (j : Fin 2048), W.z x (ix3 l b j) = R.zAt X (ix3 (e b) l j)) (hxa : ∀ (l : Fin 32) (b : Fin 8) (j : Fin 2048), W.xma x (ix3 l b j) = R.xmaAt X (ix3 (e b) l j))
  (hys : ∀ (l : Fin 32) (b : Fin 8) (j : Fin 2048), W.ys x (ix3 l b j) = ∑ s : Fin 16, R.hsAt X (ix4 (e b) l j s) * R.dblAt X (ix3 (e b) l ⟨80 + s.val, by omega⟩))
   (l : Fin 32) (b : Fin 8) (d : Fin 1024) : W.x2 x (ix3 l b d) = R.x2At X (ix3 (e b) l d) := by
  unfold Wts.x2 Par.x2At
  pointwise [k0_pay26, k0_pay3, hxs, hz, hxa, hys, A.dres, A.wout, Cert.ReferenceIdeal.Stage.x2]
  rfl

/-- The last convolution and the residual agree. -/
theorem layer_at (hx2 : ∀ (l : Fin 32) (b : Fin 8) (d : Fin 1024), W.x2 x (ix3 l b d) = R.x2At X (ix3 (e b) l d)) (l : Fin 32) (b : Fin 8) (d : Fin 1024) : W.layer x (ix3 l b d) = R.layerAt X (ix3 (e b) l d) := by
  have s0 : (FloatOps.sitofp FTy.f32 0#32 : Ideal .f32) = 0 := by
    show ((((0#32 : BitVec 32).toInt : ℤ) : ℝ) : EReal) = 0
    simp
  unfold Wts.layer Par.layerAt Par.x2padAt
  pointwise [k0_pay27, hx2, A.w20, A.w21, A.w22, A.b2, Cert.ReferenceIdeal.Stage.layer, Cert.ReferenceIdeal.Stage.x2pad, s0]
  refine congrArg (fun p => max (p + _) 0 + _) (congrArg₂ (· + ·) (congrArg (· + _) (Finset.sum_congr rfl fun i _ => congrArg _ ?_)) (Finset.sum_congr rfl fun i _ => congrArg _ ?_))
  · by_cases h : d.val < 1
    · rw [dif_pos h, dif_neg (by omega)]
    · rw [dif_neg h, dif_pos (by omega)]
  · by_cases h : d.val < 1023
    · rw [dif_pos h, dif_pos (by omega)]
      exact congrArg _ (congrArg (ix3 _ _) (Fin.ext (by simp only []; omega)))
    · rw [dif_neg h, dif_neg (by omega)]

omit A in
/-- A layer's output laid out as the next layer's input, read at an index. -/
theorem flat_at (y : FVec Ideal S32x8x1024 .f32) (b : Fin 8) (p : Fin 32768) : flat y (ix2 b p) = y (ix3 ⟨p.val / 1024, by omega⟩ b ⟨p.val % 1024, Nat.mod_lt _ (by decide)⟩) := by
  unfold flat
  refine (concatenate_ofFn_apply (s₁ := S8x1024) (t := S8x32768) 1 (fun k : Fin 32 => stepRow y k) _ rfl 1024 rfl (ix2 b p) ⟨p.val / 1024, by omega⟩ rfl (ix2 b ⟨p.val % 1024, Nat.mod_lt _ (by decide)⟩) rfl ?_).trans ?_
  · intro a ha
    match a with
    | ⟨0, _⟩ => rfl
    | ⟨1, _⟩ => exact absurd rfl ha
  · unfold stepRow
    pointwise

omit A in
/-- The heads agree. -/
theorem head_at (y : FVec Ideal S32x8x1024 .f32) (Y : FVec Ideal Cert.ReferenceIdeal.S64x32x1024 .f32)
    (lng lnb : Vec Ideal S1x1024 .f32) (wfc : Vec Ideal S1024x128 .f32) (bfc : Vec Ideal S1x128 .f32)
    (lng' lnb' : FVec Ideal Cert.ReferenceIdeal.S1024 .f32) (wfc' : FVec Ideal Cert.ReferenceIdeal.S1024x128 .f32) (bfc' : FVec Ideal Cert.ReferenceIdeal.S128 .f32)
    (hy : ∀ (l : Fin 32) (b : Fin 8) (d : Fin 1024), y (ix3 l b d) = Y (ix3 (e b) l d))
    (h1 : ∀ d : Fin 1024, lng (ix2 0 d) = lng' (ix1 d)) (h2 : ∀ d : Fin 1024, lnb (ix2 0 d) = lnb' (ix1 d))
    (h3 : ∀ (d : Fin 1024) (o : Fin 128), wfc (ix2 d o) = wfc' (ix2 d o)) (h4 : ∀ o : Fin 128, bfc (ix2 0 o) = bfc' (ix1 o))
    (b : Fin 8) (o : Fin 128) : Body.head y lng lnb wfc bfc (ix2 b o) = Cert.ReferenceIdeal.Stage.head Y lng' lnb' wfc' bfc' (ix2 (e b) o) := by
  unfold Body.head sqSum centred
  pointwise [k0_pay165, k0_pay164, Cert.ReferenceIdeal.Stage.head, hy, h1, h2, h3, h4]

section pooled

omit A in
/-- The padded signal's sample `n` of batch row `b`. -/
def sample (X : FVec Ideal Cert.ReferenceIdeal.S64x32x1024 .f32) (b : Fin 64) (n : ℕ) : EReal :=
  if h : 24 ≤ n ∧ n - 24 < 32768 then X (ix3 b ⟨(n - 24) / 1024, by omega⟩ ⟨(n - 24) % 1024, Nat.mod_lt _ (by decide)⟩) else 0

omit A in
/-- The kernel's padded signal at a sample. -/
theorem sample_eq (hx : ∀ (b : Fin 8) (p : Fin 32768), x (ix2 b p) = X (ix3 (e b) ⟨p.val / 1024, by omega⟩ ⟨p.val % 1024, Nat.mod_lt _ (by decide)⟩)) (b : Fin 8) (n : ℕ) :
    (if h : n < 24 then (0 : EReal) else if h : n - 24 < 32768 then x (ix2 b ⟨n - 24, h⟩) else 0) = sample X (e b) n := by
  unfold sample
  by_cases h : n < 24
  · rw [dif_pos h, dif_neg (by omega)]
  · by_cases h' : n - 24 < 32768
    · rw [dif_neg h, dif_pos h', dif_pos (by omega), hx]
    · rw [dif_neg h, dif_neg h', dif_neg (by omega)]

omit A in
/-- The reference's padded signal in hops, at a sample. -/
theorem hops_at (p : Fin 2051) (b : Fin 64) (r : Fin 16) : R.hopsAt X (ix3 b p r) = sample X b (p.val * 16 + r.val) := by
  have s0 : (FloatOps.sitofp FTy.f32 0#32 : Ideal .f32) = 0 := by
    show ((((0#32 : BitVec 32).toInt : ℤ) : ℝ) : EReal) = 0
    simp
  unfold Par.hopsAt sample
  pointwise [Cert.ReferenceIdeal.Stage.hops, s0]

omit A in
/-- A run of rows of the frame taps. -/
theorem half_at (w : Vec Ideal S64x32 .f32) (k : ℕ) (hk : k + 32 ≤ 64) (h : ∀ a, ![k, 0] a + S32x32.size a ≤ S64x32.size a) (t o : Fin 32) :
    VecWindow.window w ![k, 0] S32x32.size h (ix2 t o) = w (ix2 ⟨k + t.val, by omega⟩ o) := by
  unfold VecWindow.window
  congr 1
  funext a
  match a with
  | ⟨0, _⟩ => exact Fin.ext (by show k + 1 * t.val = k + t.val; omega)
  | ⟨1, _⟩ => exact Fin.ext (by show 0 + 1 * o.val = o.val; omega)

/-- The first 32 taps of the frames agree. -/
theorem w1a_at (t o : Fin 32) : W.w1a (ix2 t o) = R.w1 (ix3 o 0 ⟨t.val, by omega⟩) :=
  ((half_at W.w1 0 (by decide) inb_S64x32_S32x32_0_0 t o).trans (A.w1 _ o)).trans (congrArg (fun i => R.w1 (ix3 o 0 i)) (Fin.ext (Nat.zero_add _)))

/-- The last 32 taps of the frames agree. -/
theorem w1b_at (t o : Fin 32) : W.w1b (ix2 t o) = R.w1 (ix3 o 0 ⟨32 + t.val, by omega⟩) :=
  (half_at W.w1 32 (by decide) inb_S64x32_S32x32_32_0 t o).trans (A.w1 _ o)
variable (hx : ∀ (b : Fin 8) (p : Fin 32768), x (ix2 b p) = X (ix3 (e b) ⟨p.val / 1024, by omega⟩ ⟨p.val % 1024, Nat.mod_lt _ (by decide)⟩))
include hx

/-- The even frames as sums over samples. -/
theorem ev_at (b : Fin 8) (d : Fin 1024) (o : Fin 32) : W.ev x (ix2 ⟨b.val * 1024 + d.val, by omega⟩ o) =
    ∑ t : Fin 32, sample X (e b) (d.val * 32 + t.val) * R.w1 (ix3 o 0 ⟨t.val, by omega⟩) + ∑ t : Fin 32, sample X (e b) ((1 + d.val) * 32 + t.val) * R.w1 (ix3 o 0 ⟨32 + t.val, by omega⟩) := by
  unfold Wts.ev
  pointwise [k0_pay7, k0_pay4, k0_pay5, k0_pay6, w1a_at A, w1b_at A]
  exact congrArg₂ (· + ·) (Finset.sum_congr rfl fun t _ => congrArg (· * _) (sample_eq hx b _)) (Finset.sum_congr rfl fun t _ => congrArg (· * _) (sample_eq hx b _))

/-- The odd frames as sums over samples. -/
theorem od_at (b : Fin 8) (d : Fin 1024) (o : Fin 32) : W.od x (ix2 ⟨b.val * 1024 + d.val, by omega⟩ o) =
    ∑ t : Fin 32, sample X (e b) (16 + (d.val * 32 + t.val)) * R.w1 (ix3 o 0 ⟨t.val, by omega⟩) + ∑ t : Fin 32, sample X (e b) (16 + ((1 + d.val) * 32 + t.val)) * R.w1 (ix3 o 0 ⟨32 + t.val, by omega⟩) := by
  unfold Wts.od
  pointwise [k0_pay8, k0_pay4, k0_pay5, k0_pay6, w1a_at A, w1b_at A]
  exact congrArg₂ (· + ·) (Finset.sum_congr rfl fun t _ => congrArg (· * _) (sample_eq hx b _)) (Finset.sum_congr rfl fun t _ => congrArg (· * _) (sample_eq hx b _))

omit A hx in
/-- Sixty-four taps in two runs of 32 or in four of 16. -/
theorem taps_eq (w : Fin 64 → EReal) (f : Fin 32 → EReal) (g : Fin 32 → EReal) (h : ℕ → EReal) (n : ℕ)
    (hf : ∀ t, f t = h (n + t.val)) (hg : ∀ t, g t = h (n + (32 + t.val))) :
    ∑ t : Fin 32, f t * w ⟨t.val, by omega⟩ + ∑ t : Fin 32, g t * w ⟨32 + t.val, by omega⟩ =
    ∑ r : Fin 16, w ⟨r.val, by omega⟩ * h (n + r.val) + ∑ r : Fin 16, w ⟨16 + r.val, by omega⟩ * h (n + (16 + r.val)) +
      ∑ r : Fin 16, w ⟨32 + r.val, by omega⟩ * h (n + (32 + r.val)) + ∑ r : Fin 16, w ⟨48 + r.val, by omega⟩ * h (n + (48 + r.val)) := by
  rw [Fin.sum_univ_two_halves 16 16 rfl, Fin.sum_univ_two_halves 16 16 rfl, ← add_assoc]
  refine congrArg₂ (· + ·) (congrArg₂ (· + ·) (congrArg₂ (· + ·) ?_ ?_) ?_) ?_ <;> refine Finset.sum_congr rfl fun r _ => ?_
  · rw [hf, mul_comm]
  · rw [hf, mul_comm]
  · rw [hg, mul_comm]
  · rw [hg, mul_comm]
    have e : 32 + (16 + r.val) = 48 + r.val := by omega
    simp only [e]

omit A hx in
/-- The word of two is two. -/
theorem two_val : Ideal.ofBits .f32 0x40000000#32 = ((2 : ℝ) : EReal) := by
  simp [Ideal.ofBits, Ideal.ieee, -EReal.coe_mul]; norm_num

omit A hx in
/-- The word of a half is a half. -/
theorem half_val : Ideal.ofBits .f32 0x3F000000#32 = ((1 / 2 : ℝ) : EReal) := by
  simp [Ideal.ofBits, Ideal.ieee, -EReal.coe_mul]; norm_num

/-- The pooled frames agree. -/
theorem xseq_at (l : Fin 32) (b : Fin 8) (d : Fin 1024) : W.xseq x (ix3 l b d) = R.xseqAt X (ix3 (e b) l d) := by
  have hE := (ev_at A hx b d l).trans (taps_eq (fun t => R.w1 (ix3 l 0 t)) _ _ (sample X (e b)) (d.val * 32) (fun t => rfl) (fun t => congrArg _ (by omega)))
  have hO := (od_at A hx b d l).trans (taps_eq (fun t => R.w1 (ix3 l 0 t)) _ _ (sample X (e b)) (d.val * 32 + 16) (fun t => congrArg _ (by omega)) (fun t => congrArg _ (by omega)))
  unfold Wts.xseq Par.xseqAt
  pointwise [k0_pay9, Cert.ReferenceIdeal.Stage.xseq, hops_at, A.b1, hE, hO]
  rw [two_val, half_val, Ideal.div_coe (by norm_num : (2 : ℝ) ≠ 0), Fin.sum_univ_two]
  refine congrArg (· * _) (congrArg₂ (fun p q => max (p + _) 0 + max (q + _) 0) ?_ ?_)
  all_goals
    refine congrArg₂ (· + ·) (congrArg₂ (· + ·) (congrArg₂ (· + ·) ?_ ?_) ?_) ?_ <;>
      exact Finset.sum_congr rfl fun r _ => congrArg (_ * ·) (congrArg (sample X (e b)) (by simp only [Fin.val_zero, Fin.val_one]; omega))

end pooled

/-- The reference's first state is zero. -/
theorem state_zero (b : Fin 64) (j : Fin 2048) (s : Fin 16) : state (R.dAAt X) (R.dBuAt X) 0 (by decide) (ix4 b 0 j s) = 0 := by
  unfold state
  pointwise

/-- The reference's next state, read at an index. -/
theorem state_succ (t : ℕ) (ht : t < 32) (b : Fin 64) (j : Fin 2048) (s : Fin 16) : state (R.dAAt X) (R.dBuAt X) (t + 1) ht (ix4 b 0 j s) =
    Ideal.exp (R.deltaAt X (ix3 b ⟨t, ht⟩ j) * -Ideal.exp (R.alog (ix2 j s))) * state (R.dAAt X) (R.dBuAt X) t (Nat.le_of_lt ht) (ix4 b 0 j s)
      + R.deltaAt X (ix3 b ⟨t, ht⟩ j) * R.dblAt X (ix3 b ⟨t, ht⟩ ⟨64 + s.val, by omega⟩) * R.xmaAt X (ix3 b ⟨t, ht⟩ j) := by
  rw [state]
  unfold advance
  pointwise [Par.dAAt, Par.dBuAt, Cert.ReferenceIdeal.Stage.dA, Cert.ReferenceIdeal.Stage.dBu]

/-- The kernel's next state, read at an index. -/
theorem carry_step (d u : Vec Ideal S1x8x2048 .f32) (bb : Vec Ideal S1x8x16 .f32) (h : FVec Ideal S8x16x2048 .f32)
   (b : Fin 8) (s : Fin 16) (j : Fin 2048) : k0_pay24 (k0_pay1 W.alogt) h d u bb (ix3 b s j) =
    Ideal.exp (d (ix3 0 b j) * -Ideal.exp (R.alog (ix2 j s))) * h (ix3 b s j) + u (ix3 0 b j) * bb (ix3 0 b s) := by
  pointwise [k0_pay24, k0_pay1, A.alog]
  rw [zero_sub]

/-- The kernel's row of outputs, read at an index. -/
theorem out_step (d u : Fin k0_t1_loop.trips → Vec Ideal S1x8x2048 .f32) (bb cc : Fin k0_t1_loop.trips → Vec Ideal S1x8x16 .f32) (init : FVec Ideal S8x16x2048 .f32) (k : Fin k0_t1_loop.trips)
   (b : Fin 8) (j : Fin 2048) : outRow (k0_pay1 W.alogt) d u bb cc init k (ix3 0 b j) =
    ∑ s : Fin 16, carry (k0_pay1 W.alogt) d u bb init (k.val + 1) (ix3 b s j) * cc k (ix3 0 b s) := by
  rw [carry, dif_pos k.isLt]
  unfold outRow
  pointwise [k0_pay25]

/-- The reference's states, one after another. -/
theorem hs_at (b : Fin 64) (t : Fin 32) (j : Fin 2048) (s : Fin 16) : R.hsAt X (ix4 b t j s) = state (R.dAAt X) (R.dBuAt X) (t.val + 1) t.isLt (ix4 b 0 j s) := by
  unfold Par.hsAt states
  by_cases h : t.val < 16
  · pointwise
    rw [dif_pos h]
    unfold early
    refine (concatenate_ofFn_apply (s₁ := Cert.ReferenceIdeal.S64x1x2048x16) (t := Cert.ReferenceIdeal.S64x16x2048x16) 1 (fun k : Fin 16 => state (R.dAAt X) (R.dBuAt X) (k.val + 1) (Nat.le_trans k.isLt (by decide))) _ rfl 1 rfl _ ⟨t.val, h⟩ (Nat.div_one _) (ix4 b 0 j s) (Nat.mod_one _).symm ?_).trans ?_
    · intro a ha
      match a with
      | ⟨0, _⟩ => rfl
      | ⟨1, _⟩ => exact absurd rfl ha
      | ⟨2, _⟩ => rfl
      | ⟨3, _⟩ => rfl
    · rfl
  · pointwise
    rw [dif_neg h]
    unfold late
    refine (concatenate_ofFn_apply (s₁ := Cert.ReferenceIdeal.S64x1x2048x16) (t := Cert.ReferenceIdeal.S64x16x2048x16) 1 (fun k : Fin 16 => state (R.dAAt X) (R.dBuAt X) (k.val + 17) (Nat.add_le_add_right (Nat.le_of_lt_succ k.isLt) 17)) _ rfl 1 rfl _ ⟨t.val - 16, by omega⟩ (Nat.div_one _) (ix4 b 0 j s) (Nat.mod_one _).symm ?_).trans ?_
    · intro a ha
      match a with
      | ⟨0, _⟩ => rfl
      | ⟨1, _⟩ => exact absurd rfl ha
      | ⟨2, _⟩ => rfl
      | ⟨3, _⟩ => rfl
    · have e : t.val - 16 + 17 = t.val + 1 := by omega
      simp only [e]

omit A in
/-- Where a time step's row of the step sizes lies. -/
theorem row_idx (k : Fin k0_t1_loop.trips) (b : Fin 8) (j : Fin 2048) : (rowRect k).toLoadRect.idx (ix3 0 b j) = ix3 (Fin.cast trips_eq k) b j := by
  funext a
  match a with
  | ⟨0, _⟩ => exact Fin.ext (by
    show k0_off1 k 0 + 1 * 0 = k.val
    rw [k0_off1_eq]; rfl)
  | ⟨1, _⟩ => exact Fin.ext (by show 0 + 1 * b.val = b.val; omega)
  | ⟨2, _⟩ => exact Fin.ext (by show 0 + 1 * j.val = j.val; omega)

omit A in
/-- Where a time step's row of the state vectors lies. -/
theorem row16_idx (k : Fin k0_t1_loop.trips) (b : Fin 8) (s : Fin 16) : (rowRect16 k).toLoadRect.idx (ix3 0 b s) = ix3 (Fin.cast trips_eq k) b s := by
  funext a
  match a with
  | ⟨0, _⟩ => exact Fin.ext (by
    show k0_off2 k 0 + 1 * 0 = k.val
    rw [k0_off2_eq]; rfl)
  | ⟨1, _⟩ => exact Fin.ext (by show 0 + 1 * b.val = b.val; omega)
  | ⟨2, _⟩ => exact Fin.ext (by show 0 + 1 * s.val = s.val; omega)

/-- The scan's outputs agree. -/
theorem ys_at (hd : ∀ (l : Fin 32) (b : Fin 8) (j : Fin 2048), W.delta x (ix3 l b j) = R.deltaAt X (ix3 (e b) l j))
    (hu : ∀ (l : Fin 32) (b : Fin 8) (j : Fin 2048), W.u x (ix3 l b j) = R.deltaAt X (ix3 (e b) l j) * R.xmaAt X (ix3 (e b) l j))
    (hb : ∀ (l : Fin 32) (b : Fin 8) (s : Fin 16), W.bs x (ix3 l b s) = R.dblAt X (ix3 (e b) l ⟨64 + s.val, by omega⟩))
    (hc : ∀ (l : Fin 32) (b : Fin 8) (s : Fin 16), W.cs x (ix3 l b s) = R.dblAt X (ix3 (e b) l ⟨80 + s.val, by omega⟩))
    (l : Fin 32) (b : Fin 8) (j : Fin 2048) :
    W.ys x (ix3 l b j) = ∑ s : Fin 16, R.hsAt X (ix4 (e b) l j s) * R.dblAt X (ix3 (e b) l ⟨80 + s.val, by omega⟩) := by
  have hd' : ∀ (k : Fin k0_t1_loop.trips) (b : Fin 8) (j : Fin 2048), W.delta x ((rowRect k).toLoadRect.idx (ix3 0 b j)) = R.deltaAt X (ix3 (e b) (Fin.cast trips_eq k) j) :=
    fun k b j => (congrArg _ (row_idx k b j)).trans (hd _ _ _)
  have hu' : ∀ (k : Fin k0_t1_loop.trips) (b : Fin 8) (j : Fin 2048), W.u x ((rowRect k).toLoadRect.idx (ix3 0 b j)) = R.deltaAt X (ix3 (e b) (Fin.cast trips_eq k) j) * R.xmaAt X (ix3 (e b) (Fin.cast trips_eq k) j) :=
    fun k b j => (congrArg _ (row_idx k b j)).trans (hu _ _ _)
  have hb' : ∀ (k : Fin k0_t1_loop.trips) (b : Fin 8) (s : Fin 16), W.bs x ((rowRect16 k).toLoadRect.idx (ix3 0 b s)) = R.dblAt X (ix3 (e b) (Fin.cast trips_eq k) ⟨64 + s.val, by omega⟩) :=
    fun k b s => (congrArg _ (row16_idx k b s)).trans (hb _ _ _)
  have hc' : ∀ (k : Fin k0_t1_loop.trips) (b : Fin 8) (s : Fin 16), W.cs x ((rowRect16 k).toLoadRect.idx (ix3 0 b s)) = R.dblAt X (ix3 (e b) (Fin.cast trips_eq k) ⟨80 + s.val, by omega⟩) :=
    fun k b s => (congrArg _ (row16_idx k b s)).trans (hc _ _ _)
  have hcar : ∀ (k : ℕ) (hk : k ≤ 32) (b : Fin 8) (s : Fin 16) (j : Fin 2048),
      carry (k0_pay1 W.alogt) (fun k j => W.delta x ((rowRect k).toLoadRect.idx j)) (fun k j => W.u x ((rowRect k).toLoadRect.idx j))
        (fun k j => W.bs x ((rowRect16 k).toLoadRect.idx j)) k0_pay23 k (ix3 b s j) = state (R.dAAt X) (R.dBuAt X) k hk (ix4 (e b) 0 j s) := by
    intro k
    induction k with
    | zero =>
      intro hk b s j
      rw [state_zero A]
      unfold carry
      pointwise [k0_pay23]
    | succ k ih =>
      intro hk b s j
      have hk' : k < k0_t1_loop.trips := by rw [trips_eq]; exact hk
      rw [state_succ A k hk, carry, dif_pos hk', carry_step A]
      beta_reduce
      rw [hd', hu', hb', ih (Nat.le_of_lt hk) b s j, mul_right_comm]
      rfl
  have hrow : W.ys x (ix3 l b j) = outRow (k0_pay1 W.alogt) (fun k j => W.delta x ((rowRect k).toLoadRect.idx j)) (fun k j => W.u x ((rowRect k).toLoadRect.idx j))
      (fun k j => W.bs x ((rowRect16 k).toLoadRect.idx j)) (fun k j => W.cs x ((rowRect16 k).toLoadRect.idx j)) k0_pay23 (Fin.cast trips_eq.symm l) (ix3 0 b j) := by
    unfold Wts.ys Body.scan scanOut
    refine congrArg (outRow _ _ _ _ _ _ _) ?_
    funext a
    match a with
    | ⟨0, _⟩ => rfl
    | ⟨1, _⟩ => rfl
    | ⟨2, _⟩ => rfl
  refine hrow.trans ((out_step A _ _ _ _ _ _ b j).trans (Finset.sum_congr rfl fun s _ => ?_))
  beta_reduce
  rw [hc', hs_at A]
  exact congrArg (· * _) (hcar _ l.isLt b s j)

/-- One layer agrees, of inputs that agree. -/
theorem layer_eq (hx : ∀ (b : Fin 8) (p : Fin 32768), x (ix2 b p) = X (ix3 (e b) ⟨p.val / 1024, by omega⟩ ⟨p.val % 1024, Nat.mod_lt _ (by decide)⟩))
    (l : Fin 32) (b : Fin 8) (d : Fin 1024) : W.layer x (ix3 l b d) = R.layerAt X (ix3 (e b) l d) := by
  have hxs := xseq_at A hx
  have hxm := xm_at A hxs
  have hz := z_at A hxs
  have hxa := xma_at A hxm
  have hxr := xmaR_at hxa
  have hb := bs_at A hxr
  have hc := cs_at A hxr
  have hdr := deltaRaw_at A hxr
  have hd : ∀ (l : Fin 32) (b : Fin 8) (j : Fin 2048), W.delta x (ix3 l b j) = R.deltaAt X (ix3 (e b) l j) := fun l b j => (delta_at l b j).trans (hdr l b j)
  have hu : ∀ (l : Fin 32) (b : Fin 8) (j : Fin 2048), W.u x (ix3 l b j) = R.deltaAt X (ix3 (e b) l j) * R.xmaAt X (ix3 (e b) l j) :=
    fun l b j => (u_at l b j).trans (congrArg₂ (· * ·) (hdr l b j) (hxa l b j))
  have hys := ys_at A hd hu hb hc
  exact layer_at A (x2_at A hxs hz hxa hys) l b d

/-- The next layer's inputs agree. -/
theorem next_eq (hx : ∀ (b : Fin 8) (p : Fin 32768), x (ix2 b p) = X (ix3 (e b) ⟨p.val / 1024, by omega⟩ ⟨p.val % 1024, Nat.mod_lt _ (by decide)⟩))
    (b : Fin 8) (p : Fin 32768) : flat (W.layer x) (ix2 b p) = R.layerAt X (ix3 (e b) ⟨p.val / 1024, by omega⟩ ⟨p.val % 1024, Nat.mod_lt _ (by decide)⟩) :=
  (flat_at (W.layer x) b p).trans (layer_eq A hx _ b _)

/-- The four layers and the head agree, of inputs that agree. -/
theorem OUT_eq (hx : ∀ (b : Fin 8) (p : Fin 32768), x (ix2 b p) = X (ix3 (e b) ⟨p.val / 1024, by omega⟩ ⟨p.val % 1024, Nat.mod_lt _ (by decide)⟩))
    (lng lnb : Vec Ideal S1x1024 .f32) (wfc : Vec Ideal S1024x128 .f32) (bfc : Vec Ideal S1x128 .f32)
    (lng' lnb' : FVec Ideal Cert.ReferenceIdeal.S1024 .f32) (wfc' : FVec Ideal Cert.ReferenceIdeal.S1024x128 .f32) (bfc' : FVec Ideal Cert.ReferenceIdeal.S128 .f32)
    (h1 : ∀ d : Fin 1024, lng (ix2 0 d) = lng' (ix1 d)) (h2 : ∀ d : Fin 1024, lnb (ix2 0 d) = lnb' (ix1 d))
    (h3 : ∀ (d : Fin 1024) (o : Fin 128), wfc (ix2 d o) = wfc' (ix2 d o)) (h4 : ∀ o : Fin 128, bfc (ix2 0 o) = bfc' (ix1 o))
    (b : Fin 8) (o : Fin 128) : OUT W x lng lnb wfc bfc (ix2 b o) =
      Cert.ReferenceIdeal.Stage.head (R.layerAt (R.layerAt (R.layerAt (R.layerAt X)))) lng' lnb' wfc' bfc' (ix2 (e b) o) := by
  unfold OUT
  exact head_at _ _ lng lnb wfc bfc lng' lnb' wfc' bfc' (layer_eq A (next_eq A (next_eq A (next_eq A hx)))) h1 h2 h3 h4 b o

end Cert.Layer

end
-- ==== Proof.Arrays.lean ====
/- The arrays the kernel's blocks are cut from, as the arguments give them. -/
module

public import proofs.«01_k».proof.Proof.Pipe
public import proofs.«01_k».proof.Proof.Layer

@[expose] public section

set_option maxRecDepth 16384
set_option maxHeartbeats 1600000

noncomputable section

namespace Cert.Arrays

open Cert.KernelIdeal Cert.KernelIdeal.Gen Cert.KernelIdeal.Body
open Idealize.ShloMosaic Idealize.ShloMosaic.TcCoe Idealize.SL.Sem
open Cert.ReferenceIdeal.Stage Cert.Layer

variable (m : (ℓ : Loc nD τ sig) → Buf (Elt Ideal) ℓ)

/-- Every window of weights stays at its first block. -/
theorem idx : ∀ t : Fin cfg0.N, win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![0, 0] ∧ win0_18.index t = ![0, 0] ∧ win0_19.index t = ![0, 0] ∧ win0_20.index t = ![0, 0] ∧ win0_21.index t = ![0, 0] := (by decide +kernel : ∀ t : Fin grid0.N, win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![0, 0] ∧ win0_18.index t = ![0, 0] ∧ win0_19.index t = ![0, 0] ∧ win0_20.index t = ![0, 0] ∧ win0_21.index t = ![0, 0])

/-- So every such block is its whole array. -/
theorem whole (c : Dev nD) (t : Fin cfg0.N) : iblk m c 1 t = V m c main_v1 ∧ iblk m c 2 t = V m c main_v2 ∧ iblk m c 3 t = V m c main_v4 ∧ iblk m c 4 t = V m c main_v6 ∧ iblk m c 5 t = V m c main_v8 ∧ iblk m c 6 t = V m c main_v9 ∧ iblk m c 7 t = V m c main_v10 ∧ iblk m c 8 t = V m c main_v12 ∧ iblk m c 9 t = V m c main_v13 ∧ iblk m c 10 t = V m c main_v14 ∧ iblk m c 11 t = V m c main_v15 ∧ iblk m c 12 t = V m c main_v16 ∧ iblk m c 13 t = V m c main_arg9 ∧ iblk m c 14 t = V m c main_v17 ∧ iblk m c 15 t = V m c main_v18 ∧ iblk m c 16 t = V m c main_v19 ∧ iblk m c 17 t = V m c main_v20 ∧ iblk m c 18 t = V m c main_v21 ∧ iblk m c 19 t = V m c main_v22 ∧ iblk m c 20 t = V m c main_arg16 ∧ iblk m c 21 t = V m c main_v23 := by
  have ⟨e1, e2, e3, e4, e5, e6, e7, e8, e9, e10, e11, e12, e13, e14, e15, e16, e17, e18, e19, e20, e21⟩ := idx t
  refine ⟨?_, ?_, ?_, ?_, ?_, ?_, ?_, ?_, ?_, ?_, ?_, ?_, ?_, ?_, ?_, ?_, ?_, ?_, ?_, ?_, ?_⟩ <;> (funext y; blk_ext [iblk, e1, e2, e3, e4, e5, e6, e7, e8, e9, e10, e11, e12, e13, e14, e15, e16, e17, e18, e19, e20, e21])

/-- The reference's weights, from the kernel's arguments. -/
def argPar (c : Dev nD) : Par Ideal where
  w1 := m ((c : Thread nD τ).loc main_arg1)
  b1 := m ((c : Thread nD τ).loc main_arg2)
  win := m ((c : Thread nD τ).loc main_arg5)
  wm := m ((c : Thread nD τ).loc main_arg6)
  bm := m ((c : Thread nD τ).loc main_arg7)
  wx := m ((c : Thread nD τ).loc main_arg8)
  wdt := m ((c : Thread nD τ).loc main_arg9)
  bdt := m ((c : Thread nD τ).loc main_arg10)
  alog := m ((c : Thread nD τ).loc main_arg11)
  dres := m ((c : Thread nD τ).loc main_arg12)
  wout := m ((c : Thread nD τ).loc main_arg13)
  w2 := m ((c : Thread nD τ).loc main_arg3)
  b2 := m ((c : Thread nD τ).loc main_arg4)

/-- The kernel's weights, as the host operations leave them. -/
def arrWts (c : Dev nD) : Wts Ideal := ⟨V m c main_v1, V m c main_v2, V m c main_v4, V m c main_v6, V m c main_v8, V m c main_v9, V m c main_v10, V m c main_v12, V m c main_v13, V m c main_v14, V m c main_v15, V m c main_v16, V m c main_arg9, V m c main_v17, V m c main_v18, V m c main_v19, V m c main_v20⟩

/-- The two sets of weights agree. -/
theorem arr_agree (c : Dev nD) : Agree (arrWts m c) (argPar m c) := by
  constructor <;> intros <;> dsimp only [arrWts, argPar] <;> entry_read <;> pointwise

/-- The head's scale, shift and bias are the arguments'. -/
theorem rest_agree (c : Dev nD) : (∀ d : Fin 1024, (show Vec Ideal S1x1024 .f32 from V m c main_v21) (ix2 0 d) = (show FVec Ideal Cert.ReferenceIdeal.S1024 .f32 from m ((c : Thread nD τ).loc main_arg14)) (ix1 d)) ∧
    (∀ d : Fin 1024, (show Vec Ideal S1x1024 .f32 from V m c main_v22) (ix2 0 d) = (show FVec Ideal Cert.ReferenceIdeal.S1024 .f32 from m ((c : Thread nD τ).loc main_arg15)) (ix1 d)) ∧
    (∀ o : Fin 128, (show Vec Ideal S1x128 .f32 from V m c main_v23) (ix2 0 o) = (show FVec Ideal Cert.ReferenceIdeal.S128 .f32 from m ((c : Thread nD τ).loc main_arg17)) (ix1 o)) := by
  refine ⟨?_, ?_, ?_⟩ <;> intros <;> entry_read <;> pointwise

/-- The input window takes the rows of the batch eight at a time. -/
theorem i0 : ∀ t : Fin cfg0.N, win0_0.index t = ![t.val, 0] := (by decide +kernel : ∀ t : Fin grid0.N, win0_0.index t = ![t.val, 0])

/-- The row of the batch at a grid point and a row of its block. -/
def rowAt (t : Fin cfg0.N) (b : Fin 8) : Fin 64 := ⟨t.val * 8 + b.val, by have := t.isLt; have : cfg0.N = 8 := N_0; omega⟩

/-- The reference's input, from the kernel's argument. -/
def argX (c : Dev nD) : FVec Ideal Cert.ReferenceIdeal.S64x32x1024 .f32 :=
  shapeCast Cert.ReferenceIdeal.S64x32x1024 (show FVec Ideal Cert.ReferenceIdeal.S64x32768 .f32 from m ((c : Thread nD τ).loc main_arg0)) Cert.ReferenceIdeal.Gen.shapeCasts_S64x32768_S64x32x1024

/-- A grid point's block of the input is its rows of the argument. -/
theorem argX_at (c : Dev nD) (t : Fin cfg0.N) (b : Fin 8) (p : Fin 32768) :
   (show Vec Ideal S8x32768 .f32 from iblk m c 0 t) (ix2 b p) = argX m c (ix3 (rowAt t b) ⟨p.val / 1024, by omega⟩ ⟨p.val % 1024, Nat.mod_lt _ (by decide)⟩) := by
  unfold argX
  pointwise
  unfold rowAt
  blk_ext [iblk, V, i0 t]

end Cert.Arrays

end
-- ==== Proof.Loop.lean ====
/- What the reference computes: the head of four layers of its input. -/
module

public import proofs.«01_k».proof.Proof.Stage

@[expose] public section

set_option maxRecDepth 16384
set_option maxHeartbeats 1600000

noncomputable section

namespace Cert.ReferenceIdeal.Loop

open Cert.ReferenceIdeal Cert.ReferenceIdeal.Gen Cert.ReferenceIdeal.Value Cert.ReferenceIdeal.Stage
open Idealize.ShloMosaic Idealize.ShloMosaic.TcCoe Idealize.SL.Sem Idealize.ShloMosaic.StableHlo

variable {F : FTy → Type} [FloatOps F]
variable (m : (ℓ : Loc nD τ sig) → Buf (Elt F) ℓ)

/-- A pass of the loop leaves the weights. -/
theorem par_step (V0 : Valuation τ sig (Elt F)) : par (STEP V0) = par V0 := by
  have e : ∀ {a0 a1 a2 a3 a4 a5 a6 a7 a8 a9 aa ab ac b0 b1 b2 b3 b4 b5 b6 b7 b8 b9 ba bb bc}, a0 = b0 → a1 = b1 → a2 = b2 → a3 = b3 → a4 = b4 → a5 = b5 → a6 = b6 → a7 = b7 → a8 = b8 → a9 = b9 → aa = ba → ab = bb → ac = bc →
      (Par.mk a0 a1 a2 a3 a4 a5 a6 a7 a8 a9 aa ab ac : Par F) = Par.mk b0 b1 b2 b3 b4 b5 b6 b7 b8 b9 ba bb bc := by
    intros; subst_vars; rfl
  exact e (STEP_main_v1_0 V0) (STEP_main_v1_1 V0) (STEP_main_v1_2 V0) (STEP_main_v1_3 V0) (STEP_main_v1_4 V0) (STEP_main_v1_5 V0) (STEP_main_v1_6 V0) (STEP_main_v1_7 V0) (STEP_main_v1_8 V0) (STEP_main_v1_9 V0) (STEP_main_v1_10 V0) (STEP_main_v1_11 V0) (STEP_main_v1_12 V0)

/-- Four passes of the loop are four layers. -/
theorem four (V0 : Valuation τ sig (Elt F)) : (STEP^[4] V0) (Proc.devRef .tc main_v1_15) =
    (par V0).layerAt ((par V0).layerAt ((par V0).layerAt ((par V0).layerAt (V0 (Proc.devRef .tc main_v1_15))))) := by
  simp only [Function.iterate_succ, Function.iterate_zero, Function.comp_apply, id_eq]
  rw [STEP_main_v1_15, step_eq, STEP_main_v1_15, step_eq, STEP_main_v1_15, step_eq, STEP_main_v1_15, step_eq]
  simp only [par_step]

/-- The weights, from the arguments. -/
def entryPar (c : Dev nD) : Par F where
  w1 := m ((c : Thread nD τ).loc main_arg1)
  b1 := m ((c : Thread nD τ).loc main_arg2)
  win := m ((c : Thread nD τ).loc main_arg5)
  wm := m ((c : Thread nD τ).loc main_arg6)
  bm := m ((c : Thread nD τ).loc main_arg7)
  wx := m ((c : Thread nD τ).loc main_arg8)
  wdt := m ((c : Thread nD τ).loc main_arg9)
  bdt := m ((c : Thread nD τ).loc main_arg10)
  alog := m ((c : Thread nD τ).loc main_arg11)
  dres := m ((c : Thread nD τ).loc main_arg12)
  wout := m ((c : Thread nD τ).loc main_arg13)
  w2 := m ((c : Thread nD τ).loc main_arg3)
  b2 := m ((c : Thread nD τ).loc main_arg4)

/-- The loop is entered with those. -/
theorem par_entry (c : Dev nD) : par (entryContents preI m c) = entryPar m c := by
  unfold par entryPar
  simp only [entryContents, afterL_cons, afterL_nil]
  after_reads_simp
  rfl

/-- The loop is entered with the input cut in 32 rows. -/
theorem x_entry (c : Dev nD) : entryContents preI m c (Proc.devRef .tc main_v1_15) = shapeCast S64x32x1024 (m ((c : Thread nD τ).loc main_arg0)) shapeCasts_S64x32768_S64x32x1024 := by
  simp only [entryContents, afterL_cons, afterL_nil]
  after_reads_simp
  rfl

/-- The result: the head of the four layers of the input. -/
theorem out_value (c : Dev nD) : out_main_v32 (STEP^[4] (entryContents preI m c)) =
   head ((entryPar m c).layerAt ((entryPar m c).layerAt ((entryPar m c).layerAt ((entryPar m c).layerAt (shapeCast S64x32x1024 (m ((c : Thread nD τ).loc main_arg0)) shapeCasts_S64x32768_S64x32x1024)))))
    (m ((c : Thread nD τ).loc main_arg14)) (m ((c : Thread nD τ).loc main_arg15)) (m ((c : Thread nD τ).loc main_arg16)) (m ((c : Thread nD τ).loc main_arg17)) := by
  rw [out_eq, four, par_entry, x_entry, iter_main_arg14, iter_main_arg15, iter_main_arg16, iter_main_arg17]

end Cert.ReferenceIdeal.Loop

end
-- ==== Proof.Final.lean ====
/- The kernel's result array, and that the kernel and the reference compute one function. -/
module

public import proofs.«01_k».proof.Defs
public import proofs.«01_k».proof.Proof.Arrays
public import proofs.«01_k».proof.Proof.Loop

@[expose] public section

set_option maxRecDepth 16384
set_option maxHeartbeats 1600000

noncomputable section

namespace Cert.Final

open Cert.KernelIdeal Cert.KernelIdeal.Gen Cert.KernelIdeal.Body
open Idealize.ShloMosaic Idealize.ShloMosaic.TcCoe Idealize.SL.Sem
open Cert.ReferenceIdeal.Stage Cert.Layer Cert.Arrays

variable (m : (ℓ : Loc nD τ sig) → Buf (Elt Ideal) ℓ)

/-- The output window takes the rows of the batch eight at a time. -/
theorem i22 : ∀ t : Fin cfg0.N, win0_22.index t = ![t.val, 0] := (by decide +kernel : ∀ t : Fin grid0.N, win0_22.index t = ![t.val, 0])

/-- What the kernel computes: the head of four layers of its input. -/
def result (c : Dev nD) : FVec Ideal Cert.ReferenceIdeal.S64x128 .f32 :=
  head ((argPar m c).layerAt ((argPar m c).layerAt ((argPar m c).layerAt ((argPar m c).layerAt (argX m c)))))
    (m ((c : Thread nD τ).loc main_arg14)) (m ((c : Thread nD τ).loc main_arg15)) (m ((c : Thread nD τ).loc main_arg16)) (m ((c : Thread nD τ).loc main_arg17))

/-- The weights at every grid point are the arrays'. -/
theorem wts_eq (c : Dev nD) (t : Fin cfg0.N) : wtsAt m c t = arrWts m c := by
  obtain ⟨h1, h2, h3, h4, h5, h6, h7, h8, h9, h10, h11, h12, h13, h14, h15, h16, h17, -⟩ := whole m c t
  unfold wtsAt arrWts
  rw [h1, h2, h3, h4, h5, h6, h7, h8, h9, h10, h11, h12, h13, h14, h15, h16, h17]

/-- A grid point's block of results is its rows of that. -/
theorem block_at (c : Dev nD) (t : Fin cfg0.N) (b : Fin 8) (o : Fin 128) : blockOut m c t (ix2 b o) = result m c (ix2 (rowAt t b) o) := by
  obtain ⟨-, -, -, -, -, -, -, -, -, -, -, -, -, -, -, -, -, h18, h19, h20, h21⟩ := whole m c t
  have hr := rest_agree m c
  unfold blockOut result
  rw [wts_eq, h18, h19, h20, h21]
  exact OUT_eq (e := rowAt t) (arr_agree m c) (argX_at m c t) _ _ _ _ _ _ _ _ hr.1 hr.2.1 (fun d o => congrFun (V_main_arg16 m c) (ix2 d o)) hr.2.2 b o

/-- The result array holds it. -/
theorem final (c : Dev nD) : (dats m 0 c).arrAt 22 cfg0.N = result m c := by
  refine (dats m 0 c).arrAt_eq_of_covers 22 _ (by decide +kernel) fun t hf y => ?_
  blk_simp
  rw [left_22]
  have hy : y = ix2 (y 0) (y 1) := by
    funext a
    match a with
    | ⟨0, _⟩ => rfl
    | ⟨1, _⟩ => rfl
  have he : (win0_22.blk t).view.emb y = ix2 (rowAt t (y 0)) (y 1) := by
    unfold rowAt
    blk_ext [i22 t]
  rw [he]
  exact (congrArg (blockOut m c t) hy).trans (block_at m c t (y 0) (y 1))

/-- The reference computes it too, of the same arguments. -/
theorem reference_value (m' : (ℓ : Loc Cert.ReferenceIdeal.nD Cert.ReferenceIdeal.τ Cert.ReferenceIdeal.sig) → Buf (Elt Ideal) ℓ) (c : Dev nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0) ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1) ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2) ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3) ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4) ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5) ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6) ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7) ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8) ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9) ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10) ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11) ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12) ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13) ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14) ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15) ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16) ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) :
    Cert.ReferenceIdeal.Value.out_main_v32 (Cert.ReferenceIdeal.Value.STEP^[4] (StableHlo.entryContents Cert.ReferenceIdeal.Value.preI m' c)) = result m c := by
  obtain ⟨h0, h1, h2, h3, h4, h5, h6, h7, h8, h9, h10, h11, h12, h13, h14, h15, h16, h17⟩ := h
  rw [Cert.ReferenceIdeal.Loop.out_value]
  unfold Cert.ReferenceIdeal.Loop.entryPar
  rw [h0, h1, h2, h3, h4, h5, h6, h7, h8, h9, h10, h11, h12, h13, h14, h15, h16, h17]
  rfl

/-- Over the extended reals the kernel and the reference compute one function. -/
theorem algebraic : Cert.algebraic_KernelIdeal_ReferenceIdeal := fun m ρ m' ρ' _ hag => ⟨fun c => result m c,
  (θ_run Cert.KernelIdeal.defs _ _).mono (fun _ h c => ⟨((h.1.out_eq c 22).trans (final m c)), h.2.1 c⟩)
    (θ_run_and (run_posts m ρ) (frame m ρ)),
  (θ_run Cert.ReferenceIdeal.defs _ _).mono (fun _ h c => ⟨(h c).1.trans (reference_value m m' c (hag c)), (h c).2⟩)
    (Cert.ReferenceIdeal.Value.run (F := Ideal) m' ρ')⟩

end Cert.Final

end
-- ==== Proof.lean ====
/- The claims of this directory. -/
module

public import proofs.«01_k».proof.Defs
public import proofs.«01_k».proof.Proof.Gen.Kernel
public import proofs.«01_k».proof.Proof.Gen.KernelIdeal
public import proofs.«01_k».proof.Proof.Pipe
public import proofs.«01_k».proof.Proof.Same
public import proofs.«01_k».proof.Proof.Gen.ReferenceIdeal
public import proofs.«01_k».proof.Proof.Gen.ReferenceIdeal.Run
public import proofs.«01_k».proof.Proof.Final

@[expose] public section

noncomputable section

namespace Cert.Proof

open Idealize.ShloMosaic Idealize.SL.Sem

/-- The kernel read over the extended reals runs, leaves its arguments as they were and every counter at zero. -/
theorem ideal_frame : Cert.quiescent_KernelIdeal := fun m ρ _ => Cert.KernelIdeal.Body.frame m ρ

/-- So does the reference, which has no counter. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The claims: the three runs, that the two kernels are one program, and that the kernel computes the reference's function. -/
theorem claim : Cert.Claim := ⟨Cert.Kernel.Gen.facts, Cert.KernelIdeal.Gen.facts, Cert.ReferenceIdeal.Gen.facts,
  Cert.Same.kernel_frame, ideal_frame, reference_frame, trivial, Cert.Final.algebraic⟩

end Cert.Proof

end
